-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![512, 2]⟩ ⟨2, ![4096, 2]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 256, 512]⟩ ⟨3, ![16, 256, 512]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![4096, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x16 : Shape := ⟨2, ![256, 16]⟩
abbrev S512x2 : Shape := ⟨2, ![512, 2]⟩
abbrev S2x256x512 : Shape := ⟨3, ![2, 256, 512]⟩
abbrev S512x512 : Shape := ⟨2, ![512, 512]⟩
abbrev S3x2x256x512 : Shape := ⟨4, ![3, 2, 256, 512]⟩
abbrev S2x2x256x512 : Shape := ⟨4, ![2, 2, 256, 512]⟩
abbrev S3x2x512 : Shape := ⟨3, ![3, 2, 512]⟩
abbrev S2x2x512 : Shape := ⟨3, ![2, 2, 512]⟩
abbrev S2x512 : Shape := ⟨2, ![2, 512]⟩
abbrev S2x2 : Shape := ⟨2, ![2, 2]⟩
abbrev S2 : Shape := ⟨1, ![2]⟩
abbrev S_ : Shape := ⟨0, ![]⟩
abbrev S1x256x512 : Shape := ⟨3, ![1, 256, 512]⟩
abbrev S256x512 : Shape := ⟨2, ![256, 512]⟩
abbrev S512 : Shape := ⟨1, ![512]⟩
abbrev S1x512 : Shape := ⟨2, ![1, 512]⟩
abbrev S1x1x256x512 : Shape := ⟨4, ![1, 1, 256, 512]⟩
abbrev S1x1x512 : Shape := ⟨3, ![1, 1, 512]⟩
abbrev S1x1 : Shape := ⟨2, ![1, 1]⟩
abbrev S1 : Shape := ⟨1, ![1]⟩
abbrev S1x2x512 : Shape := ⟨3, ![1, 2, 512]⟩
abbrev S512x16 : Shape := ⟨2, ![512, 16]⟩
abbrev S512x1 : Shape := ⟨2, ![512, 1]⟩

abbrev nBuf : Space → Nat
  | .hbm => 5
  | .vmem => 16
  | .smem => 0
  | _ => 0

abbrev bufTy : (tb : Table) → Fin (tcTables nBuf tb) → BufTy
  | .hbm, ⟨0, _⟩ => ⟨S512x256, .bf16⟩
  | .hbm, ⟨1, _⟩ => ⟨S256x16, .bf16⟩
  | .hbm, ⟨2, _⟩ => ⟨S512x2, .i32⟩
  | .hbm, ⟨3, _⟩ => ⟨S2x256x512, .bf16⟩
  | .hbm, ⟨4, _⟩ => ⟨S512x512, .bf16⟩
  | .local _ .vmem, ⟨0, _⟩ => ⟨S512x256, .bf16⟩
  | .local _ .vmem, ⟨1, _⟩ => ⟨S256x16, .bf16⟩
  | .local _ .vmem, ⟨2, _⟩ => ⟨S512x2, .i32⟩
  | .local _ .vmem, ⟨3, _⟩ => ⟨S2x256x512, .bf16⟩
  | .local _ .vmem, ⟨4, _⟩ => ⟨S512x512, .bf16⟩
  | .local _ .vmem, ⟨5, _⟩ => ⟨S512x512, .f32⟩
  | .local _ .vmem, ⟨6, _⟩ => ⟨S3x2x256x512, .i8⟩
  | .local _ .vmem, ⟨7, _⟩ => ⟨S2x2x256x512, .i8⟩
  | .local _ .vmem, ⟨8, _⟩ => ⟨S2x256x512, .i8⟩
  | .local _ .vmem, ⟨9, _⟩ => ⟨S2x256x512, .i8⟩
  | .local _ .vmem, ⟨10, _⟩ => ⟨S2x256x512, .i8⟩
  | .local _ .vmem, ⟨11, _⟩ => ⟨S3x2x512, .f32⟩
  | .local _ .vmem, ⟨12, _⟩ => ⟨S2x2x512, .f32⟩
  | .local _ .vmem, ⟨13, _⟩ => ⟨S2x512, .f32⟩
  | .local _ .vmem, ⟨14, _⟩ => ⟨S2x512, .f32⟩
  | .local _ .vmem, ⟨15, _⟩ => ⟨S2x512, .f32⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 1 → Bool
  | ⟨0, _⟩ => false
  | _ => false

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  (ofTc nBuf bufTy 1 47 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_scratch7 : Ref sig .tc := ⟨.vmem, 12, rfl⟩
abbrev cc0_scratch8 : Ref sig .tc := ⟨.vmem, 13, rfl⟩
abbrev cc0_scratch9 : Ref sig .tc := ⟨.vmem, 14, rfl⟩
abbrev cc0_scratch10 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_11 : BitVec 32 := 1#32
  let v16 : BitVec 32 := Scalar.muli v5 c1_i32_11
  let v17 : BitVec 32 := Scalar.addi c0_i32 v16
  v17.toNat
def k0_dev2 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_13 : BitVec 32 := 1#32
  let v18 : BitVec 32 := Scalar.muli v7 c1_i32_13
  let v19 : BitVec 32 := Scalar.addi c0_i32_14 v18
  v19.toNat
def k0_dev3 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v8 : BitVec 32 := Scalar.addi v2 c4_i32
  let c8_i32_5 : BitVec 32 := 8#32
  let v9 : BitVec 32 := Scalar.remsi v8 c8_i32_5
  let c1_i32_16 : BitVec 32 := 1#32
  let v20 : BitVec 32 := Scalar.muli v9 c1_i32_16
  let v21 : BitVec 32 := Scalar.addi c0_i32_17 v20
  v21.toNat
def k0_dev4 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.addi v2 c3_i32
  let c8_i32_6 : BitVec 32 := 8#32
  let v11 : BitVec 32 := Scalar.remsi v10 c8_i32_6
  let c1_i32_19 : BitVec 32 := 1#32
  let v22 : BitVec 32 := Scalar.muli v11 c1_i32_19
  let v23 : BitVec 32 := Scalar.addi c0_i32_20 v22
  v23.toNat
def k0_dev5 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_7 : BitVec 32 := 8#32
  let v12 : BitVec 32 := Scalar.addi v2 c8_i32_7
  let c3_i32_8 : BitVec 32 := 3#32
  let v13 : BitVec 32 := Scalar.subi v12 c3_i32_8
  let c8_i32_9 : BitVec 32 := 8#32
  let v14 : BitVec 32 := Scalar.remsi v13 c8_i32_9
  let c1_i32_22 : BitVec 32 := 1#32
  let v24 : BitVec 32 := Scalar.muli v14 c1_i32_22
  let v25 : BitVec 32 := Scalar.addi c0_i32_23 v24
  v25.toNat
def k0_dev6 (d0 : Dev nD) : Nat :=
  let c0_i32_46 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_45 : BitVec 32 := 1#32
  let v50 : BitVec 32 := Scalar.muli v7 c1_i32_45
  let v51 : BitVec 32 := Scalar.addi c0_i32_46 v50
  v51.toNat
def k0_dev7 (d0 : Dev nD) : Nat :=
  let c0_i32_60 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_59 : BitVec 32 := 1#32
  let v60 : BitVec 32 := Scalar.muli v5 c1_i32_59
  let v61 : BitVec 32 := Scalar.addi c0_i32_60 v60
  v61.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v8 : BitVec 32 := Scalar.addi v2 c4_i32
  let c8_i32_5 : BitVec 32 := 8#32
  let v9 : BitVec 32 := Scalar.remsi v8 c8_i32_5
  let c1_i32_70 : BitVec 32 := 1#32
  let v70 : BitVec 32 := Scalar.muli v9 c1_i32_70
  let v71 : BitVec 32 := Scalar.addi c0_i32_71 v70
  v71.toNat
def k0_dev9 (d0 : Dev nD) : Nat :=
  let c0_i32_82 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.addi v2 c3_i32
  let c8_i32_6 : BitVec 32 := 8#32
  let v11 : BitVec 32 := Scalar.remsi v10 c8_i32_6
  let c1_i32_81 : BitVec 32 := 1#32
  let v80 : BitVec 32 := Scalar.muli v11 c1_i32_81
  let v81 : BitVec 32 := Scalar.addi c0_i32_82 v80
  v81.toNat
def k0_dev10 (d0 : Dev nD) : Nat :=
  let c0_i32_93 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_7 : BitVec 32 := 8#32
  let v12 : BitVec 32 := Scalar.addi v2 c8_i32_7
  let c3_i32_8 : BitVec 32 := 3#32
  let v13 : BitVec 32 := Scalar.subi v12 c3_i32_8
  let c8_i32_9 : BitVec 32 := 8#32
  let v14 : BitVec 32 := Scalar.remsi v13 c8_i32_9
  let c1_i32_92 : BitVec 32 := 1#32
  let v90 : BitVec 32 := Scalar.muli v14 c1_i32_92
  let v91 : BitVec 32 := Scalar.addi c0_i32_93 v90
  v91.toNat
def k0_dev11 (d0 : Dev nD) : Nat :=
  let c0_i32_121 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_120 : BitVec 32 := 1#32
  let v124 : BitVec 32 := Scalar.muli v7 c1_i32_120
  let v125 : BitVec 32 := Scalar.addi c0_i32_121 v124
  v125.toNat
def k0_dev12 (d0 : Dev nD) : Nat :=
  let c0_i32_135 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_134 : BitVec 32 := 1#32
  let v134 : BitVec 32 := Scalar.muli v5 c1_i32_134
  let v135 : BitVec 32 := Scalar.addi c0_i32_135 v134
  v135.toNat
def k0_dev13 (d0 : Dev nD) : Nat :=
  let c0_i32_146 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v8 : BitVec 32 := Scalar.addi v2 c4_i32
  let c8_i32_5 : BitVec 32 := 8#32
  let v9 : BitVec 32 := Scalar.remsi v8 c8_i32_5
  let c1_i32_145 : BitVec 32 := 1#32
  let v144 : BitVec 32 := Scalar.muli v9 c1_i32_145
  let v145 : BitVec 32 := Scalar.addi c0_i32_146 v144
  v145.toNat
def k0_dev14 (d0 : Dev nD) : Nat :=
  let c0_i32_157 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.addi v2 c3_i32
  let c8_i32_6 : BitVec 32 := 8#32
  let v11 : BitVec 32 := Scalar.remsi v10 c8_i32_6
  let c1_i32_156 : BitVec 32 := 1#32
  let v154 : BitVec 32 := Scalar.muli v11 c1_i32_156
  let v155 : BitVec 32 := Scalar.addi c0_i32_157 v154
  v155.toNat
def k0_dev15 (d0 : Dev nD) : Nat :=
  let c0_i32_168 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_7 : BitVec 32 := 8#32
  let v12 : BitVec 32 := Scalar.addi v2 c8_i32_7
  let c3_i32_8 : BitVec 32 := 3#32
  let v13 : BitVec 32 := Scalar.subi v12 c3_i32_8
  let c8_i32_9 : BitVec 32 := 8#32
  let v14 : BitVec 32 := Scalar.remsi v13 c8_i32_9
  let c1_i32_167 : BitVec 32 := 1#32
  let v164 : BitVec 32 := Scalar.muli v14 c1_i32_167
  let v165 : BitVec 32 := Scalar.addi c0_i32_168 v164
  v165.toNat
def k0_dev16 (d0 : Dev nD) : Nat :=
  let c0_i32_178 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_177 : BitVec 32 := 1#32
  let v174 : BitVec 32 := Scalar.muli v7 c1_i32_177
  let v175 : BitVec 32 := Scalar.addi c0_i32_178 v174
  v175.toNat
def k0_dev17 (d0 : Dev nD) : Nat :=
  let c0_i32_188 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_187 : BitVec 32 := 1#32
  let v184 : BitVec 32 := Scalar.muli v5 c1_i32_187
  let v185 : BitVec 32 := Scalar.addi c0_i32_188 v184
  v185.toNat
def k0_dev18 (d0 : Dev nD) : Nat :=
  let c0_i32_197 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v8 : BitVec 32 := Scalar.addi v2 c4_i32
  let c8_i32_5 : BitVec 32 := 8#32
  let v9 : BitVec 32 := Scalar.remsi v8 c8_i32_5
  let c1_i32_196 : BitVec 32 := 1#32
  let v194 : BitVec 32 := Scalar.muli v9 c1_i32_196
  let v195 : BitVec 32 := Scalar.addi c0_i32_197 v194
  v195.toNat
def k0_dev19 (d0 : Dev nD) : Nat :=
  let c0_i32_204 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.addi v2 c3_i32
  let c8_i32_6 : BitVec 32 := 8#32
  let v11 : BitVec 32 := Scalar.remsi v10 c8_i32_6
  let c1_i32_203 : BitVec 32 := 1#32
  let v202 : BitVec 32 := Scalar.muli v11 c1_i32_203
  let v203 : BitVec 32 := Scalar.addi c0_i32_204 v202
  v203.toNat
def k0_dev20 (d0 : Dev nD) : Nat :=
  let c0_i32_211 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_7 : BitVec 32 := 8#32
  let v12 : BitVec 32 := Scalar.addi v2 c8_i32_7
  let c3_i32_8 : BitVec 32 := 3#32
  let v13 : BitVec 32 := Scalar.subi v12 c3_i32_8
  let c8_i32_9 : BitVec 32 := 8#32
  let v14 : BitVec 32 := Scalar.remsi v13 c8_i32_9
  let c1_i32_210 : BitVec 32 := 1#32
  let v210 : BitVec 32 := Scalar.muli v14 c1_i32_210
  let v211 : BitVec 32 := Scalar.addi c0_i32_211 v210
  v211.toNat
def k0_dev21 (d0 : Dev nD) : Nat :=
  let c0_i32_266 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_265 : BitVec 32 := 1#32
  let v295 : BitVec 32 := Scalar.muli v7 c1_i32_265
  let v296 : BitVec 32 := Scalar.addi c0_i32_266 v295
  v296.toNat
def k0_dev22 (d0 : Dev nD) : Nat :=
  let c0_i32_286 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_285 : BitVec 32 := 1#32
  let v313 : BitVec 32 := Scalar.muli v5 c1_i32_285
  let v314 : BitVec 32 := Scalar.addi c0_i32_286 v313
  v314.toNat
def k0_dev23 (d0 : Dev nD) : Nat :=
  let c0_i32_314 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_313 : BitVec 32 := 1#32
  let v331 : BitVec 32 := Scalar.muli v7 c1_i32_313
  let v332 : BitVec 32 := Scalar.addi c0_i32_314 v331
  v332.toNat
def k0_dev24 (d0 : Dev nD) : Nat :=
  let c0_i32_342 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_341 : BitVec 32 := 1#32
  let v349 : BitVec 32 := Scalar.muli v5 c1_i32_341
  let v350 : BitVec 32 := Scalar.addi c0_i32_342 v349
  v350.toNat
def k0_dev25 (d0 : Dev nD) : Nat :=
  let c0_i32_370 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_369 : BitVec 32 := 1#32
  let v367 : BitVec 32 := Scalar.muli v7 c1_i32_369
  let v368 : BitVec 32 := Scalar.addi c0_i32_370 v367
  v368.toNat
def k0_dev26 (d0 : Dev nD) : Nat :=
  let c0_i32_398 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_397 : BitVec 32 := 1#32
  let v385 : BitVec 32 := Scalar.muli v5 c1_i32_397
  let v386 : BitVec 32 := Scalar.addi c0_i32_398 v385
  v386.toNat
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x256 : Shape := ⟨2, ![4096, 256]⟩
abbrev S256x16 : Shape := ⟨2, ![256, 16]⟩
abbrev S4096x2 : Shape := ⟨2, ![4096, 2]⟩
abbrev S16x256x512 : Shape := ⟨3, ![16, 256, 512]⟩
abbrev S4096x16 : Shape := ⟨2, ![4096, 16]⟩
abbrev S_ : Shape := ⟨0, ![]⟩
abbrev S4096 : Shape := ⟨1, ![4096]⟩
abbrev S4096x1 : Shape := ⟨2, ![4096, 1]⟩
abbrev S4096x2x1 : Shape := ⟨3, ![4096, 2, 1]⟩
abbrev S16 : Shape := ⟨1, ![16]⟩
abbrev S1x1x16 : Shape := ⟨3, ![1, 1, 16]⟩
abbrev S4096x2x16 : Shape := ⟨3, ![4096, 2, 16]⟩
abbrev S16x512 : Shape := ⟨2, ![16, 512]⟩
abbrev S16x1x512 : Shape := ⟨3, ![16, 1, 512]⟩
abbrev S4096x16x512 : Shape := ⟨3, ![4096, 16, 512]⟩
abbrev S1x16x512 : Shape := ⟨3, ![1, 16, 512]⟩
abbrev S4096x16x1 : Shape := ⟨3, ![4096, 16, 1]⟩
abbrev S4096x512 : Shape := ⟨2, ![4096, 512]⟩

abbrev nBuf : Space → Nat
  | .hbm => 67
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S256x16, .bf16⟩
  | .hbm, ⟨2, _⟩ => ⟨S4096x2, .i32⟩
  | .hbm, ⟨3, _⟩ => ⟨S16x256x512, .bf16⟩
  | .hbm, ⟨4, _⟩ => ⟨S4096x256, .f32⟩
  | .hbm, ⟨5, _⟩ => ⟨S256x16, .f32⟩
  | .hbm, ⟨6, _⟩ => ⟨S16x256x512, .f32⟩
  | .hbm, ⟨7, _⟩ => ⟨S4096x16, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S4096x16, .f32⟩
  | .hbm, ⟨12, _⟩ => ⟨S4096x16, .f32⟩
  | .hbm, ⟨13, _⟩ => ⟨S4096x16, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S4096x16, .f32⟩
  | .hbm, ⟨18, _⟩ => ⟨S4096x16, .f32⟩
  | .hbm, ⟨19, _⟩ => ⟨S4096x2x1, .i32⟩
  | .hbm, ⟨20, _⟩ => ⟨S16, .i32⟩
  | .hbm, ⟨21, _⟩ => ⟨S1x1x16, .i32⟩
  | .hbm, ⟨22, _⟩ => ⟨S4096x2x16, .i32⟩
  | .hbm, ⟨23, _⟩ => ⟨S4096x2x16, .i32⟩
  | .hbm, ⟨24, _⟩ => ⟨S4096x2x16, .i1⟩
  | .hbm, ⟨25, _⟩ => ⟨S_, .i1⟩
  | .hbm, ⟨26, _⟩ => ⟨S4096x16, .i1⟩
  | .hbm, ⟨27, _⟩ => ⟨S_, .f32⟩
  | .hbm, ⟨28, _⟩ => ⟨S_, .f32⟩
  | .hbm, ⟨29, _⟩ => ⟨S4096x16, .f32⟩
  | .hbm, ⟨30, _⟩ => ⟨S4096x16, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S4096x16, .f32⟩
  | .hbm, ⟨35, _⟩ => ⟨S4096x16, .f32⟩
  | .hbm, ⟨36, _⟩ => ⟨S16x256x512, .f32⟩
  | .hbm, ⟨37, _⟩ => ⟨S_, .f32⟩
  | .hbm, ⟨38, _⟩ => ⟨S16x512, .f32⟩
  | .hbm, ⟨39, _⟩ => ⟨S_, .f32⟩
  | .hbm, ⟨40, _⟩ => ⟨S16x512, .f32⟩
  | .hbm, ⟨41, _⟩ => ⟨S16x512, .f32⟩
  | .hbm, ⟨42, _⟩ => ⟨S_, .f32⟩
  | .hbm, ⟨43, _⟩ => ⟨S16x512, .f32⟩
  | .hbm, ⟨44, _⟩ => ⟨S16x512, .f32⟩
  | .hbm, ⟨45, _⟩ => ⟨S16x1x512, .f32⟩
  | .hbm, ⟨46, _⟩ => ⟨S16x256x512, .f32⟩
  | .hbm, ⟨47, _⟩ => ⟨S16x256x512, .f32⟩
  | .hbm, ⟨48, _⟩ => ⟨S16x256x512, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S16x256x512, .f32⟩
  | .hbm, ⟨53, _⟩ => ⟨S16x256x512, .f32⟩
  | .hbm, ⟨54, _⟩ => ⟨S_, .f32⟩
  | .hbm, ⟨55, _⟩ => ⟨S16x256x512, .f32⟩
  | .hbm, ⟨56, _⟩ => ⟨S16x256x512, .f32⟩
  | .hbm, ⟨57, _⟩ => ⟨S4096x16x512, .f32⟩
  | .hbm, ⟨58, _⟩ => ⟨S1x16x512, .f32⟩
  | .hbm, ⟨59, _⟩ => ⟨S4096x16x512, .f32⟩
  | .hbm, ⟨60, _⟩ => ⟨S4096x16x512, .f32⟩
  | .hbm, ⟨61, _⟩ => ⟨S4096x16x1, .f32⟩
  | .hbm, ⟨62, _⟩ => ⟨S4096x16x512, .f32⟩
  | .hbm, ⟨63, _⟩ => ⟨S4096x16x512, .f32⟩
  | .hbm, ⟨64, _⟩ => ⟨S_, .f32⟩
  | .hbm, ⟨65, _⟩ => ⟨S4096x512, .f32⟩
  | .hbm, ⟨66, _⟩ => ⟨S4096x512, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_v19 : Ref sig .tc := ⟨.hbm, 26, rfl⟩
abbrev main_cst_1 : Ref sig .tc := ⟨.hbm, 27, rfl⟩
abbrev main_call0_v0 : Ref sig .tc := ⟨.hbm, 28, rfl⟩
abbrev main_call0_v1 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_cst_7 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩

abbrev nD : Nat := 1
abbrev τ : Topo := Topo.v7x

variable {F : FTy → Type} [FloatOps F]
-- ==== Proof.Cells.lean ====
/-
# `Cells`: the places, the routes, the semaphore cells and the schedule of the exchange

Each device holds, for every origin offset `k`, a *place*: the buffers in which the two quantised experts (parts `0`, `1`)
and their scales (part `2`) of device `c + k` lie. Place `0` is its own. Seven *routes* fill the others: five carry a
device's own experts to the devices at displacements 1, 7, 4, 3, 5, and two forward what came by the first two one step on.
A transfer is a route and a part; it has a send cell on the sender and a receive cell on the target. The barrier cell of a
device has five duties, one for each family of routes leaving it: the target of the family pays it, and hands over the
landing places the family writes.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.Pointwise.Index

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the staging copies' rounds and the exchange's, whose duties are five -/

abbrev UX : Type := URounds (GSem nD τ sig) (Fin 5)
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

abbrev 𝒱₀ : Variants := Variants.none

/-! ## Routes -/

/-- A transfer: its route and its part. -/
abbrev T : Type := Fin 7 × Fin 3

/-- How far a route goes, the place it reads and the place it writes, the family it belongs to. -/
def dsp : Fin 7 → ℕ := ![1, 7, 4, 3, 5, 1, 7]
def src : Fin 7 → Fin 8 := ![0, 0, 0, 0, 0, 7, 1]
def dst : Fin 7 → Fin 8 := ![7, 1, 4, 5, 3, 6, 2]
def fam : Fin 7 → Fin 5 := ![0, 1, 2, 3, 4, 0, 1]
/-- How many transfers read the same slot before this one. -/
def ord : Fin 7 → ℕ := ![0, 1, 2, 3, 4, 0, 0]

set_option backward.proofsInPublic true in
/-- The device `k` steps on. -/
def fwd (k : ℕ) (c : Dev nD) : Dev nD := ⟨(c.val + k) % 8, Nat.mod_lt _ (by decide)⟩
/-- The target of route `r` from `c`, and the device from which it comes to `c`. -/
def nb (r : Fin 7) (c : Dev nD) : Dev nD := fwd (dsp r) c
def pv (r : Fin 7) (c : Dev nD) : Dev nD := fwd (8 - dsp r) c
def fr (f : Fin 5) : Fin 7 := ⟨f.val, by have := f.isLt; omega⟩

theorem nb_pv (r : Fin 7) (c : Dev nD) : nb r (pv r c) = c := by revert r c; decide
theorem pv_nb (r : Fin 7) (c : Dev nD) : pv r (nb r c) = c := by revert r c; decide
theorem nb_fam (r : Fin 7) (c : Dev nD) : nb (fr (fam r)) c = nb r c := by revert r c; decide
/-- Who the experts of place `k` belong to, along a route. -/
theorem origin_route (r : Fin 7) (c : Dev nD) : fwd (dst r).val (nb r c) = fwd (src r).val c := by revert r c; decide
theorem fwd_zero (c : Dev nD) : fwd ((0 : Fin 8).val) c = c := by revert c; decide

def ring (r : Fin 7) : Dev nD ≃ Dev nD := ⟨nb r, pv r, pv_nb r, nb_pv r⟩

/-! ## Slots -/

def shp : Fin 3 → Shape | 0 => S256x512 | 1 => S256x512 | 2 => S2x512
def elt : Fin 3 → EltTy | 0 => .i8 | 1 => .i8 | 2 => .f32

abbrev A6 : Memref sig .tc .vmem S3x2x256x512 .i8 := Memref.whole cc0_scratch1
abbrev A7 : Memref sig .tc .vmem S2x2x256x512 .i8 := Memref.whole cc0_scratch2
abbrev A8 : Memref sig .tc .vmem S2x256x512 .i8 := Memref.whole cc0_scratch3
abbrev A9 : Memref sig .tc .vmem S2x256x512 .i8 := Memref.whole cc0_scratch4
abbrev A10 : Memref sig .tc .vmem S2x256x512 .i8 := Memref.whole cc0_scratch5
abbrev A11 : Memref sig .tc .vmem S3x2x512 .f32 := Memref.whole cc0_scratch6
abbrev A12 : Memref sig .tc .vmem S2x2x512 .f32 := Memref.whole cc0_scratch7
abbrev A13 : Memref sig .tc .vmem S2x512 .f32 := Memref.whole cc0_scratch8
abbrev A14 : Memref sig .tc .vmem S2x512 .f32 := Memref.whole cc0_scratch9
abbrev A15 : Memref sig .tc .vmem S2x512 .f32 := Memref.whole cc0_scratch10

abbrev til6 (h j : ℕ) (p : ∀ i, (![h, j, 0, 0] : Fin 4 → ℕ) i + S1x1x256x512.size i ≤ S3x2x256x512.size i) : Memref sig .tc .vmem S256x512 .i8 :=
  (A6.slice (Rect.unit (s := S3x2x256x512) ![h, j, 0, 0] S1x1x256x512.size p) (fun _ => rfl)).squeeze S256x512 squeezes_S1x1x256x512_S256x512
abbrev til7 (h j : ℕ) (p : ∀ i, (![h, j, 0, 0] : Fin 4 → ℕ) i + S1x1x256x512.size i ≤ S2x2x256x512.size i) : Memref sig .tc .vmem S256x512 .i8 :=
  (A7.slice (Rect.unit (s := S2x2x256x512) ![h, j, 0, 0] S1x1x256x512.size p) (fun _ => rfl)).squeeze S256x512 squeezes_S1x1x256x512_S256x512
abbrev til1 (A : Memref sig .tc .vmem S2x256x512 .i8) (j : ℕ) (p : ∀ i, (![j, 0, 0] : Fin 3 → ℕ) i + S1x256x512.size i ≤ S2x256x512.size i) : Memref sig .tc .vmem S256x512 .i8 :=
  (A.slice (Rect.unit (s := S2x256x512) ![j, 0, 0] S1x256x512.size p) (fun _ => rfl)).squeeze S256x512 squeezes_S1x256x512_S256x512
abbrev sc11 (h : ℕ) (p : ∀ i, (![h, 0, 0] : Fin 3 → ℕ) i + S1x2x512.size i ≤ S3x2x512.size i) : Memref sig .tc .vmem S2x512 .f32 :=
  (A11.slice (Rect.unit (s := S3x2x512) ![h, 0, 0] S1x2x512.size p) (fun _ => rfl)).squeeze S2x512 squeezes_S1x2x512_S2x512
abbrev sc12 (h : ℕ) (p : ∀ i, (![h, 0, 0] : Fin 3 → ℕ) i + S1x2x512.size i ≤ S2x2x512.size i) : Memref sig .tc .vmem S2x512 .f32 :=
  (A12.slice (Rect.unit (s := S2x2x512) ![h, 0, 0] S1x2x512.size p) (fun _ => rfl)).squeeze S2x512 squeezes_S1x2x512_S2x512

/-- The tile of part `p` at place `k`. -/
def slot : (k : Fin 8) → (p : Fin 3) → Memref sig .tc .vmem (shp p) (elt p)
  | 0, 0 => til6 0 0 (by decide) | 0, 1 => til6 0 1 (by decide) | 0, 2 => sc11 0 (by decide)
  | 1, 0 => til7 0 0 (by decide) | 1, 1 => til7 0 1 (by decide) | 1, 2 => sc12 0 (by decide)
  | 2, 0 => til7 1 0 (by decide) | 2, 1 => til7 1 1 (by decide) | 2, 2 => sc12 1 (by decide)
  | 3, 0 => til1 A10 0 (by decide) | 3, 1 => til1 A10 1 (by decide) | 3, 2 => A15
  | 4, 0 => til1 A8 0 (by decide) | 4, 1 => til1 A8 1 (by decide) | 4, 2 => A13
  | 5, 0 => til1 A9 0 (by decide) | 5, 1 => til1 A9 1 (by decide) | 5, 2 => A14
  | 6, 0 => til6 2 0 (by decide) | 6, 1 => til6 2 1 (by decide) | 6, 2 => sc11 2 (by decide)
  | 7, 0 => til6 1 0 (by decide) | 7, 1 => til6 1 1 (by decide) | 7, 2 => sc11 1 (by decide)

/-- What a transfer of part `p` credits. -/
def amt (p : Fin 3) : ℕ := (slot 0 p).view.dmaCredit
theorem amt_eq (k : Fin 8) (p : Fin 3) : (slot k p).view.dmaCredit = amt p := by
  fin_cases k <;> fin_cases p <;> rfl
theorem amt_pos (p : Fin 3) : 0 < amt p := View.dmaCredit_pos _ (by fin_cases p <;> decide)

/-! ## Semaphores -/

def sndS (t : T) : DmaSem sig :=
  (![![5, 6, 33], ![13, 14, 37], ![21, 22, 41], ![25, 26, 43], ![29, 30, 45], ![7, 8, 34], ![15, 16, 38]] : Fin 7 → Fin 3 → Fin 47) t.1 t.2
def rcvS (t : T) : DmaSem sig :=
  (![![9, 10, 35], ![17, 18, 39], ![23, 24, 42], ![27, 28, 44], ![31, 32, 46], ![11, 12, 36], ![19, 20, 40]] : Fin 7 → Fin 3 → Fin 47) t.1 t.2

abbrev barS : Sem sig := (SemArray.scalar (sig.barrier 0 rfl) : Sems sig S_).sem

/-- A device's cells: its barrier cell, and for each transfer a send cell (`false`) and a receive cell (`true`). -/
abbrev Cel : Type := Option (T × Bool)
def csem : Cel → SemLoc sig
  | none => .reg barS
  | some (t, false) => .dma (sndS t)
  | some (t, true) => .dma (rcvS t)

theorem csem_inj : Function.Injective csem := by
  have h : ∀ a b : T × Bool, (bif a.2 then rcvS a.1 else sndS a.1) = (bif b.2 then rcvS b.1 else sndS b.1) → a = b := by decide +kernel
  rintro (_ | ⟨t, _ | _⟩) (_ | ⟨t', _ | _⟩) e
  · rfl
  all_goals first
    | (cases e; done)
    | (have e' := SemLoc.dma.inj e
       first
       | exact congrArg some (h (t, false) (t', false) e')
       | exact congrArg some (h (t, false) (t', true) e')
       | exact congrArg some (h (t, true) (t', false) e')
       | exact congrArg some (h (t, true) (t', true) e'))

/-- The cell a semaphore is. -/
def role (s : SemLoc sig) : Option Cel := Function.partialInv csem s
theorem role_csem (k : Cel) : role (csem k) = some k := Function.partialInv_left csem_inj k
theorem csem_of_role {s : SemLoc sig} {k : Cel} (h : role s = some k) : csem k = s := (Function.partialInv_of_injective csem_inj k s).mp h

abbrev kcell (ck : Dev nD × Cel) : GSem nD τ sig := ((ck.1 : Thread nD τ), csem ck.2)
abbrev barC (c : Dev nD) : GSem nD τ sig := kcell (c, none)
abbrev sndC (c : Dev nD) (t : T) : GSem nD τ sig := kcell (c, some (t, false))
abbrev rcvC (c : Dev nD) (t : T) : GSem nD τ sig := kcell (c, some (t, true))

theorem kcell_injective : Function.Injective (kcell : Dev nD × Cel → GSem nD τ sig) := by
  rintro ⟨c, k⟩ ⟨c', k'⟩ h
  have h1 : c = c' := congrArg (fun g : GSem nD τ sig => g.1.1) h
  have h2 : k = k' := csem_inj (congrArg Prod.snd h)
  rw [h1, h2]

/-! ## Contents -/

variable (W : Dev nD → (cc0_stg3_0 : Ref sig .tc).ty.Contents (Elt F))

abbrev A3 : Memref sig .tc .vmem S2x256x512 .bf16 := Memref.whole cc0_stg3_0

/-- Expert `0`, `1` of a device's block of the expert weights. -/
def exp0 (w : (cc0_stg3_0 : Ref sig .tc).ty.Contents (Elt F)) : Vec F S1x256x512 .bf16 :=
  (A3.access (Rect.unit (s := S2x256x512) ![0, 0, 0] S1x256x512.size inb_S2x256x512_S1x256x512_0_0_0)).read (Elt F) w
def exp1 (w : (cc0_stg3_0 : Ref sig .tc).ty.Contents (Elt F)) : Vec F S1x256x512 .bf16 :=
  (A3.access (Rect.unit (s := S2x256x512) ![1, 0, 0] S1x256x512.size inb_S2x256x512_S1x256x512_1_0_0)).read (Elt F) w

/-- The two rows of scales, one for each expert. -/
def rows (w : (cc0_stg3_0 : Ref sig .tc).ty.Contents (Elt F)) : Vec F S2x512 .f32 := fun x =>
  if (x 0).val = 0 then k0_pay4 (exp0 w) (ix3 0 0 (x 1)) else k0_pay9 (k0_pay6 (exp1 w)) (ix3 0 0 (x 1))

/-- What the slot of part `p` holds for the device whose expert block is `w`: the quantised expert, the two rows of scales. -/
def val (w : (cc0_stg3_0 : Ref sig .tc).ty.Contents (Elt F)) : (p : Fin 3) → (shp p).Idx → Elt F (elt p)
  | 0 => shapeCast S256x512 (k0_pay3 (exp0 w))
  | 1 => shapeCast S256x512 (k0_pay8 (k0_pay7 (exp1 w)))
  | 2 => rows w

/-- The slot of part `p` at place `k` of device `c`, at share `q` and contents `f`; -/
def ptsAt (c : Dev nD) (k : Fin 8) (p : Fin 3) (q : PosShare TreeShare) (f : Buf (Elt F) ((slot k p).view.loc (c : Thread nD τ))) : sProp 𝕄 :=
  (slot k p).view.loc (c : Thread nD τ) ↦[(slot k p).view.set]{q} f
/-- at any contents; -/
def anyAt (c : Dev nD) (k : Fin 8) (p : Fin 3) : sProp 𝕄 := iprop(∃ f, ptsAt c k p fullShare f)
/-- holding what it is meant to hold. -/
def has (c : Dev nD) (k : Fin 8) (p : Fin 3) (q : PosShare TreeShare) : sProp 𝕄 :=
  ptsAt c k p q ((slot k p).view.rep (val (W (fwd k.val c)) p))

instance ptsAt_storable (c : Dev nD) (k p q f) : BI.Storable (upEmb : UEmb _ 𝕄) (ptsAt (F := F) c k p q f) := by unfold ptsAt; infer_instance
instance anyAt_storable (c : Dev nD) (k p) : BI.Storable (upEmb : UEmb _ 𝕄) (anyAt (F := F) c k p) := by unfold anyAt; infer_instance
instance has_storable (c : Dev nD) (k p q) : BI.Storable (upEmb : UEmb _ 𝕄) (has W c k p q) := by unfold has; infer_instance

/-- The share left of a slot after `n` transfers out of it, and the share the next takes. -/
def rest : ℕ → PosShare TreeShare
  | 0 => fullShare
  | n + 1 => (rest n).right
def tok (n : ℕ) : PosShare TreeShare := (rest n).left

theorem has_split (c : Dev nD) (k p) (n : ℕ) : has W c k p (rest n) ⊣⊢ iprop(has W c k p (tok n) ∗ has W c k p (rest (n + 1))) := by
  unfold has ptsAt tok
  exact pointsTo_share (PosShare.mem_left_op_right (rest n))

/-- The landing slot of transfer `t` from device `d`, on its target. -/
def land (d : Dev nD) (t : T) : sProp 𝕄 := anyAt (nb t.1 d) (dst t.1) t.2

/-! ## The schedule -/

def barPay (d : Dev nD) (f : Fin 5) : sProp 𝕄 := bigSep (Finset.univ.filter fun t : T => fam t.1 = f) (land d)
def sndPay (d : Dev nD) (t : T) : sProp 𝕄 := has W d (src t.1) t.2 (tok (ord t.1))
def rcvPay (d : Dev nD) (t : T) : sProp 𝕄 := has W d (dst t.1) t.2 fullShare

def dutiesOf : Option Cel → Finset (Fin 5)
  | some none => Finset.univ
  | some (some _) => {0}
  | none => ∅
def amtOf : Option Cel → ℕ
  | some (some (t, _)) => amt t.2
  | _ => 1
def payOf (d : Dev nD) (f : Fin 5) : Option Cel → sProp 𝕄
  | some none => barPay d f
  | some (some (t, false)) => sndPay W d t
  | some (some (t, true)) => rcvPay W d t
  | none => iprop(emp)

def Sch : Rounds.Schedule (GSem nD τ sig) (Fin 5) 𝕄 where
  duties g r := if r = 0 ∧ g.1.2 = .tc then dutiesOf (role g.2) else ∅
  unitless _ := False
  amount g _ _ := amtOf (role g.2)
  payload g _ d := payOf W g.1.1 d (role g.2)
  amount_pos g _ _ _ := by
    unfold amtOf; split
    · exact amt_pos _
    · exact Nat.one_pos

instance Sch_payload_storable (g : GSem nD τ sig) (r : ℕ) (d : Fin 5) :
    BI.Storable (upEmb : UEmb _ 𝕄) ((Sch (F := F) W).payload g r d) := by
  show BI.Storable upEmb (payOf W g.1.1 d (role g.2))
  unfold payOf barPay sndPay rcvPay land
  split <;> infer_instance

section Sched
variable (c : Dev nD)

theorem duties_bar : (Sch (F := F) W).duties (barC c) 0 = Finset.univ := by
  dsimp only [Sch]; rw [role_csem]; exact if_pos ⟨rfl, rfl⟩
theorem duties_xfer (t : T) (b : Bool) : (Sch (F := F) W).duties (kcell (c, some (t, b))) 0 = {0} := by
  dsimp only [Sch]; rw [role_csem]; exact if_pos ⟨rfl, rfl⟩
theorem duties_later (g : GSem nD τ sig) : ∀ r, 1 ≤ r → (Sch (F := F) W).duties g r = ∅ :=
  fun r hr => by dsimp only [Sch]; rw [if_neg fun h => by omega]
theorem amount_bar (d : Fin 5) : (Sch (F := F) W).amount (barC c) 0 d = 1 := by
  dsimp only [Sch]; rw [role_csem]; rfl
theorem amount_xfer (t : T) (b : Bool) (d : Fin 5) : (Sch (F := F) W).amount (kcell (c, some (t, b))) 0 d = amt t.2 := by
  dsimp only [Sch]; rw [role_csem]; rfl
theorem expect_bar : (Sch (F := F) W).expect (barC c) 0 = 5 := by
  unfold Schedule.expect Schedule.amountOf
  rw [duties_bar, Finset.sum_congr rfl fun d _ => amount_bar W c d]; rfl
theorem expect_xfer (t : T) (b : Bool) : (Sch (F := F) W).expect (kcell (c, some (t, b))) 0 = amt t.2 := by
  unfold Schedule.expect Schedule.amountOf; rw [duties_xfer, Finset.sum_singleton, amount_xfer]
theorem payload_bar (d : Fin 5) : (Sch (F := F) W).payload (barC c) 0 d = barPay c d := by
  dsimp only [Sch]; rw [role_csem]; rfl
theorem payload_snd (t : T) (d : Fin 5) : (Sch (F := F) W).payload (sndC c t) 0 d = sndPay W c t := by
  dsimp only [Sch]; rw [role_csem]; rfl
theorem payload_rcv (t : T) (d : Fin 5) : (Sch (F := F) W).payload (rcvC c t) 0 d = rcvPay W c t := by
  dsimp only [Sch]; rw [role_csem]; rfl
/-- The rest of the barrier cell's round: all landing slots of the transfers the device makes. -/
theorem rest_bar : bigSep ((Sch (F := F) W).duties (barC c) 0 \ ∅) (fun d => (Sch (F := F) W).payload (barC c) 0 d)
    = bigSep Finset.univ (land (F := F) c) := by
  rw [Finset.sdiff_empty, duties_bar, bigSep_congr fun d _ => payload_bar W c d]
  unfold barPay
  have h : (Finset.univ : Finset T).image (fun t => fam t.1) = Finset.univ := by decide +kernel
  rw [← h]
  exact (bigSep_fiberwise Finset.univ (fun t : T => fam t.1) (land c)).symm
theorem rest_snd (t : T) : bigSep ((Sch (F := F) W).duties (sndC c t) 0 \ ∅) (fun d => (Sch (F := F) W).payload (sndC c t) 0 d) = sndPay W c t := by
  rw [Finset.sdiff_empty, duties_xfer, bigSep_singleton, payload_snd]
theorem rest_rcv (t : T) : bigSep ((Sch (F := F) W).duties (rcvC c t) 0 \ ∅) (fun d => (Sch (F := F) W).payload (rcvC c t) 0 d) = rcvPay W c t := by
  rw [Finset.sdiff_empty, duties_xfer, bigSep_singleton, payload_rcv]

end Sched

/-! ## Orders, what is owed, levels -/

/-- The transfers in the order they are made, the receive waits and the send waits in theirs; the families in the order
    their targets are signalled. -/
def sends : List T :=
  [(0, 0), (1, 0), (2, 0), (3, 0), (4, 0), (0, 1), (1, 1), (2, 1), (3, 1), (4, 1), (0, 2), (1, 2), (2, 2), (3, 2), (4, 2),
   (5, 2), (6, 2), (5, 0), (6, 0), (5, 1), (6, 1)]
def recvs : List T :=
  [(0, 2), (1, 2), (0, 0), (1, 0), (0, 1), (1, 1), (2, 2), (2, 0), (2, 1), (3, 2), (3, 0), (3, 1), (4, 2), (4, 0), (4, 1),
   (5, 0), (6, 0), (5, 1), (6, 1), (5, 2), (6, 2)]
def backs : List T :=
  [(0, 0), (1, 0), (0, 1), (1, 1), (0, 2), (1, 2), (5, 0), (6, 0), (5, 1), (6, 1), (5, 2), (6, 2),
   (2, 0), (3, 0), (4, 0), (2, 1), (3, 1), (4, 1), (2, 2), (3, 2), (4, 2)]
def hails : List (Fin 5) := [0, 1, 2, 4, 3]

theorem sends_univ : (Finset.univ : Finset T) = sends.toFinset ∧ sends.Nodup := by decide +kernel
theorem recvs_univ : (Finset.univ : Finset T) = recvs.toFinset ∧ recvs.Nodup := by decide +kernel
theorem backs_univ : (Finset.univ : Finset T) = backs.toFinset ∧ backs.Nodup := by decide +kernel
theorem hails_univ : (Finset.univ : Finset (Fin 5)) = hails.toFinset ∧ hails.Nodup := by decide +kernel

/-- The credits device `c` still owes: of the transfers `ts` to their receive cells, of the signals `fs` to the barrier cells. -/
def owT (c : Dev nD) : List T → CellTallies nD τ sig Unit
  | [] => 0
  | t :: ts => owT c ts + tallyAt (rcvC (nb t.1 c) t) () (amt t.2)
def owB (c : Dev nD) (ts : List T) : List (Fin 5) → CellTallies nD τ sig Unit
  | [] => owT c ts
  | f :: fs => owB c ts fs + tallyAt (barC (pv (fr f) c)) () 1

def L (g : GSem nD τ sig) : Finset Unit := if g.1.2 = .tc then {()} else ∅
/-- Staging and send cells at 0, barrier cells at 1, receive cells at 2, those of the forwarding routes at 3. -/
def lvOf : Option Cel → ℕ
  | some none => 1
  | some (some (t, true)) => if t.1.val < 5 then 2 else 3
  | _ => 0
def lv (g : GSem nD τ sig) (_ : Unit) : ℕ := lvOf (role g.2)

theorem L_of_ne (g : GSem nD τ sig) (h : g.1.2 ≠ .tc) : L g = ∅ := if_neg h
theorem L_tc (c : Dev nD) (sm : SemLoc sig) : L ((c : Thread nD τ), sm) = {()} := if_pos rfl

theorem tallyAt_pos {g g' : GSem nD τ sig} {u u' : Unit} {n : ℕ} (h : 0 < tallyAt g u n g' u') : g' = g := by
  rw [tallyAt_apply] at h
  by_contra hn
  rw [if_neg fun h' => hn h'.1] at h
  exact Nat.lt_irrefl 0 h

theorem owT_pos {c : Dev nD} {g : GSem nD τ sig} {u : Unit} : ∀ {ts : List T}, 0 < owT c ts g u → ∃ t ∈ ts, g = rcvC (nb t.1 c) t
  | [], h => absurd h (Nat.lt_irrefl 0)
  | t :: ts, h => by
    unfold owT at h
    rw [Pi.add_apply, Finsupp.add_apply] at h
    rcases Nat.pos_of_ne_zero (Nat.pos_iff_ne_zero.mp h) |> Nat.add_pos_iff_pos_or_pos.mp with h | h
    · obtain ⟨t', m, e⟩ := owT_pos h; exact ⟨t', List.mem_cons_of_mem _ m, e⟩
    · exact ⟨t, List.mem_cons_self, tallyAt_pos h⟩

theorem owB_pos {c : Dev nD} {ts : List T} {g : GSem nD τ sig} {u : Unit} : ∀ {fs : List (Fin 5)}, 0 < owB c ts fs g u →
    (∃ t ∈ ts, g = rcvC (nb t.1 c) t) ∨ ∃ f ∈ fs, g = barC (pv (fr f) c)
  | [], h => .inl (owT_pos h)
  | f :: fs, h => by
    unfold owB at h
    rw [Pi.add_apply, Finsupp.add_apply] at h
    rcases Nat.add_pos_iff_pos_or_pos.mp h with h | h
    · rcases owB_pos h with h | ⟨f', m, e⟩
      · exact .inl h
      · exact .inr ⟨f', List.mem_cons_of_mem _ m, e⟩
    · exact .inr ⟨f, List.mem_cons_self, tallyAt_pos h⟩

/-- A wait on a semaphore whose level lies below those of all cells still owed to. -/
theorem mayWait (c : Dev nD) (s : SemLoc sig) (ts : List T) (fs : List (Fin 5))
    (ht : ∀ t ∈ ts, lvOf (role s) < lvOf (some (some (t, true)))) (hf : ∀ f ∈ fs, lvOf (role s) < 1) :
    (levAts L lv : sProp 𝕄) ⊢ MayWait (c : Thread nD τ) s () (owB c ts fs) :=
  MayOwe.of_cut (L := L) (lev := lv) (lvOf (role s)) (fun p hp => by rw [Finset.mem_singleton.mp hp, L_tc]; exact Finset.mem_singleton_self _)
    (fun g u hg => by rcases owB_pos hg with ⟨t, _, rfl⟩ | ⟨f, _, rfl⟩ <;> exact Finset.mem_singleton_self _)
    (fun p hp => by rw [Finset.mem_singleton.mp hp]; exact Nat.le_refl _)
    (fun g u hg => by
      rcases owB_pos hg with ⟨t, m, rfl⟩ | ⟨f, m, rfl⟩
      · show lvOf (role s) < lvOf (role (csem (some (t, true)))); rw [role_csem]; exact ht t m
      · show lvOf (role s) < lvOf (role (csem none)); rw [role_csem]; exact hf f m)

end Cert.Moe

end
-- ==== Proof.Steps.lean ====
/-
# `Steps`: one rule for each kind of step of the exchange

The state of a device between two steps is `net c o s r`: `o` of its own three slots are stored, `s` of its transfers made,
`r` of its receive waits done. Everything it holds is a function of these numbers. A step needs only which transfer is next in
the program's order.
-/
module

public import proofs.«01_k».proof.Proof.Cells
public import Idealize.ShloMosaic.Lib.ValueLayout
public import Idealize.ShloMosaic.Lib.Pipeline.BigSepL

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (W : Dev nD → (cc0_stg3_0 : Ref sig .tc).ty.Contents (Elt F))

/-! ## What all devices know -/

def recs (K : Dev nD × Cel → ℕ) : sProp 𝕄 :=
  iprop((bigSep Finset.univ fun ck : Dev nD × Cel => cellInv EX (Sch W) (K ck) (kcell ck))
    ∗ bigSep Finset.univ fun ck : Dev nD × Cel => reached EX (kcell ck) 0)
instance recs_persistent (K : Dev nD × Cel → ℕ) : BI.Persistent (recs W K) := by unfold recs; infer_instance

def ctx (K : Dev nD × Cel → ℕ) : sProp 𝕄 := iprop(recs W K ∗ levAts L lv)
instance ctx_persistent (K : Dev nD × Cel → ℕ) : BI.Persistent (ctx W K) := by unfold ctx; infer_instance

variable (K : Dev nD × Cel → ℕ)

theorem ctx_inv (ck : Dev nD × Cel) : ctx W K ⊢ cellInv EX (Sch W) (K ck) (kcell ck) := by
  have h : (bigSep Finset.univ fun ck : Dev nD × Cel => (cellInv EX (Sch W) (K ck) (kcell ck) : sProp 𝕄)) ⊢ cellInv EX (Sch W) (K ck) (kcell ck) :=
    bigSep_elim (Finset.mem_univ ck)
  unfold ctx recs
  iintro ⟨⟨#HI, -⟩, -⟩
  iapply h; iexact HI
theorem ctx_reached (ck : Dev nD × Cel) : ctx W K ⊢ reached EX (kcell ck) 0 := by
  have h : (bigSep Finset.univ fun ck : Dev nD × Cel => (reached EX (kcell ck) 0 : sProp 𝕄)) ⊢ reached EX (kcell ck) 0 :=
    bigSep_elim (Finset.mem_univ ck)
  unfold ctx recs
  iintro ⟨⟨-, #HI⟩, -⟩
  iapply h; iexact HI
theorem ctx_lev : ctx W K ⊢ levAts L lv := by
  unfold ctx; iintro ⟨-, H⟩; iexact H

/-! ## The slots held -/

/-- One slot: `some n` at the share `n` transfers leave of it, `none` not held. -/
def slotAt (c : Dev nD) (kp : Fin 8 × Fin 3) : Option ℕ → sProp 𝕄
  | none => iprop(emp)
  | some n => has W c kp.1 kp.2 (rest n)
def held (c : Dev nD) (σ : Fin 8 × Fin 3 → Option ℕ) : sProp 𝕄 := bigSep Finset.univ fun kp => slotAt W c kp (σ kp)

theorem held_set (c : Dev nD) {σ σ' : Fin 8 × Fin 3 → Option ℕ} (kp : Fin 8 × Fin 3) (n : Option ℕ)
    (h : ∀ x, σ' x = if x = kp then n else σ x) :
    held W c σ' = iprop(slotAt W c kp n ∗ bigSep (Finset.univ.erase kp) fun x => slotAt W c x (σ x)) := by
  unfold held
  rw [bigSep_erase (Finset.mem_univ kp), h kp, if_pos rfl]
  congr 1
  exact bigSep_congr fun x hx => by rw [h x, if_neg (Finset.ne_of_mem_erase hx)]

theorem held_at (c : Dev nD) {σ : Fin 8 × Fin 3 → Option ℕ} (kp : Fin 8 × Fin 3) {n : Option ℕ} (h : σ kp = n) :
    held W c σ = iprop(slotAt W c kp n ∗ bigSep (Finset.univ.erase kp) fun x => slotAt W c x (σ x)) :=
  held_set W c kp n fun x => by
    by_cases e : x = kp
    · rw [if_pos e, e, h]
    · rw [if_neg e]

/-- A slot borrowed from those held. -/
theorem held_take (c : Dev nD) {σ : Fin 8 × Fin 3 → Option ℕ} (k : Fin 8) (p : Fin 3) {n : ℕ} (h : σ (k, p) = some n) :
    held W c σ ⊢ iprop(has W c k p (rest n) ∗ (has W c k p (rest n) -∗ held W c σ)) := by
  rw [held_at W c (k, p) h]
  show iprop(has W c k p (rest n) ∗ _) ⊢ iprop(_ ∗ (_ -∗ iprop(has W c k p (rest n) ∗ _)))
  iintro ⟨H, HR⟩
  isplitl [H]; · iexact H
  iintro H
  isplitl [H] <;> iassumption

/-- A slot added. -/
theorem held_put (c : Dev nD) {σ σ' : Fin 8 × Fin 3 → Option ℕ} (k : Fin 8) (p : Fin 3) {n : ℕ} (h₀ : σ (k, p) = none)
    (h : ∀ x, σ' x = if x = (k, p) then some n else σ x) :
    iprop(held W c σ ∗ has W c k p (rest n)) ⊢ held W c σ' := by
  rw [held_at W c (k, p) h₀]
  rw [held_set W c (k, p) (some n) h]
  show iprop((iprop(emp) ∗ _) ∗ _) ⊢ iprop(has W c k p (rest n) ∗ _)
  iintro ⟨⟨-, HR⟩, H⟩
  isplitl [H] <;> iassumption

/-- A slot's share halved: one half leaves. -/
theorem held_give (c : Dev nD) {σ σ' : Fin 8 × Fin 3 → Option ℕ} (k : Fin 8) (p : Fin 3) {n : ℕ} (h₀ : σ (k, p) = some n)
    (h : ∀ x, σ' x = if x = (k, p) then some (n + 1) else σ x) :
    held W c σ ⊢ iprop(has W c k p (tok n) ∗ held W c σ') := by
  rw [held_at W c (k, p) h₀]
  rw [held_set W c (k, p) (some (n + 1)) h]
  show iprop(has W c k p (rest n) ∗ _) ⊢ iprop(_ ∗ has W c k p (rest (n + 1)) ∗ _)
  iintro ⟨H, HR⟩
  ihave H := (has_split W c k p n).1 $$ H
  icases H with ⟨H1, H2⟩
  isplitl [H1]; · iexact H1
  isplitl [H2] <;> iassumption

/-! ## The state -/

/-- Which slots are held, and how many transfers have taken a share of them. -/
def stat (o s r : ℕ) (kp : Fin 8 × Fin 3) : Option ℕ :=
  if (if kp.1 = 0 then decide (kp.2.val < o) else (recvs.take r).any fun t => dst t.1 = kp.1 && t.2 = kp.2)
  then some ((sends.take s).countP fun t => src t.1 = kp.1 && t.2 = kp.2) else none

def owing (c : Dev nD) (O : CellTallies nD τ sig Unit) : sProp 𝕄 := iprop(∃ Wt : Waits sig Unit, owes (c : Thread nD τ) O Wt)

/-- What a transfer is made with: its two duty tokens and the landing slot. -/
def toSend (c : Dev nD) (t : T) : sProp 𝕄 :=
  iprop((dutyTok EX (sndC c t) 0 0 ∗ dutyTok EX (rcvC (nb t.1 c) t) 0 0) ∗ land c t)
/-- What a receive wait is made with. -/
def toRecv (c : Dev nD) (t : T) : sProp 𝕄 := iprop(atPos EX (rcvC c t) 0 ∅ 0 ∗ cred (tallyAt (rcvC c t) () (amt t.2)))
def sent (c : Dev nD) (t : T) : sProp 𝕄 := cred (tallyAt (sndC c t) () (amt t.2))
def closedR (c : Dev nD) (t : T) : sProp 𝕄 := semVal (rcvC c t) 0

def net (c : Dev nD) (o s r : ℕ) : sProp 𝕄 :=
  iprop(owing c (owT c (sends.drop s)) ∗ bigSepL (sends.drop s) (toSend c) ∗ bigSepL (sends.take s) (sent c)
    ∗ bigSepL (recvs.drop r) (toRecv c) ∗ bigSepL (recvs.take r) (closedR c) ∗ held W c (stat o s r))

theorem drop_get {α : Type} {l : List α} {i : ℕ} {a : α} (h : l[i]? = some a) : l.drop i = a :: l.drop (i + 1) := by
  obtain ⟨hi, e⟩ := List.getElem?_eq_some_iff.mp h
  rw [List.drop_eq_getElem_cons hi, e]
theorem take_get {α : Type} {l : List α} {i : ℕ} {a : α} (h : l[i]? = some a) : l.take (i + 1) = l.take i ++ [a] := by
  rw [List.take_add_one, h]; rfl

theorem pop {α : Type} {l : List α} {i : ℕ} {a : α} (h : l[i]? = some a) (Φ : α → sProp 𝕄) :
    bigSepL (l.drop i) Φ = iprop(Φ a ∗ bigSepL (l.drop (i + 1)) Φ) := by rw [drop_get h, bigSepL_cons']
theorem push {α : Type} {l : List α} {i : ℕ} {a : α} (h : l[i]? = some a) (Φ : α → sProp 𝕄) :
    bigSepL (l.take (i + 1)) Φ = iprop(bigSepL (l.take i) Φ ∗ Φ a) := by rw [take_get h, bigSepL_append, bigSepL_singleton]

/-- A program on device `c`'s core. -/
abbrev runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The transfers -/

theorem write_slot (k k' : Fin 8) (p : Fin 3) (c c' : Dev nD) (w : (shp p).Idx → Elt F (elt p)) (f : Buf (Elt F) ((slot k' p).view.loc (c' : Thread nD τ))) :
    ptsAt c' k' p fullShare ((slot k' p).view.write (Elt F) f ((slot k p).view.read (Elt F) ((slot k p).view.rep w)) Finset.univ)
      = ptsAt c' k' p fullShare ((slot k' p).view.rep w) := by
  rw [View.read_rep]
  unfold ptsAt
  rw [pointsTo_rep, View.read_write_univ]

theorem send (c : Dev nD) (t : T) {o s r : ℕ} (hs : sends[s]? = some t) (h₀ : stat o s r (src t.1, t.2) = some (ord t.1))
    (h : ∀ x, stat o (s + 1) r x = if x = (src t.1, t.2) then some (ord t.1 + 1) else stat o s r x)
    {c' : Dev nD} (hc : c' = nb t.1 c) {m₁ m₂ : Memref sig .tc .vmem (shp t.2) (elt t.2)} (hm₁ : m₁ = slot (src t.1) t.2) (hm₂ : m₂ = slot (dst t.1) t.2)
    {q₁ q₂ : DmaSem sig} (hq₁ : q₁ = sndS t) (hq₂ : q₂ = rcvS t)
    {hsc : (m₂ : Memref sig (Dev.tc c' : Thread nD τ).2.kind .vmem (shp t.2) (elt t.2)).view.ref.isScScratch = false}
    {hsrc : m₁.view.WordExact} {hdst : m₂.view.WordExact}
    {hsem : DmaTarget.Typed .vmem (.dma q₂) (.remote (Dev.tc c' : Thread nD τ) (m₂ : Memref sig (Dev.tc c' : Thread nD τ).2.kind .vmem (shp t.2) (elt t.2)) (.dma q₁) hsc)}
    {α : Type} {Q : α → sProp 𝕄} {k : PUnit → Prog (TpuEff nD τ sig (Elt F) Λ₀ .tc) α} :
    iprop(ctx W K ∗ net W c o s r)
      ⊢ iprop((net W c o (s + 1) r -∗ runs c (k ⟨⟩) Q)
        -∗ runs c (.op (.enqueueDma m₁ (.remote (Dev.tc c' : Thread nD τ) m₂ (.dma q₁) hsc) (.dma q₂) hsrc hdst hsem) k) Q) := by
  subst hc hm₁ hm₂ hq₁ hq₂
  unfold net
  rw [pop hs, push hs]
  unfold owing toSend land anyAt sent
  iintro ⟨#Hc, ⟨%Wt, HO⟩, ⟨⟨⟨HtS, HtR⟩, %f, Hd⟩, HT⟩, HC, HR, HZ, Hh⟩ Hk
  ihave Hh := (held_give W c (src t.1) t.2 h₀ h) $$ Hh
  icases Hh with ⟨Hs, Hh⟩
  iapply (Rounds.wp_send_pointsTo 𝒱₀ EX (Sch W) (c : Thread nD τ) none (c' := (nb t.1 c : Thread nD τ))
      (src := slot (src t.1) t.2) (dst := slot (dst t.1) t.2) (sS := .dma (sndS t)) (sem := .dma (rcvS t))
      (κ₁ := K (c, some (t, false))) (κ₂ := K (nb t.1 c, some (t, true)))
      (r₁ := 0) (r₂ := 0) (d₁ := 0) (d₂ := 0) (fs := (slot (src t.1) t.2).view.rep (val (W (fwd (src t.1).val c)) t.2)) (fd := f) (q := tok (ord t.1))
      (by have := duties_xfer W c t false; exact this ▸ Finset.mem_singleton_self _)
      (by have := duties_xfer W (nb t.1 c) t true; exact this ▸ Finset.mem_singleton_self _)
      () () (amt t.2) (amt_eq _ _) (amount_xfer W c t false 0) (amount_xfer W (nb t.1 c) t true 0)
      (owT c (sends.drop (s + 1))) (O₀ := owT c (sends.drop s)) (by rw [drop_get hs]; rfl) (W := Wt)
      (by have := payload_snd W c t 0; exact Entails.of_eq this.symm)
      (by
        have e := payload_rcv W (nb t.1 c) t 0
        unfold rcvPay has at e
        rw [origin_route, ← write_slot (src t.1) (dst t.1) t.2 c (nb t.1 c) _ f] at e
        exact Entails.of_eq e.symm)) $$ [Hs Hd HO HtS HtR]
  · isplitr; · iapply (ctx_inv W K (c, some (t, false))); iexact Hc
    isplitr; · iapply (ctx_inv W K (nb t.1 c, some (t, true))); iexact Hc
    isplitl [Hs]; · unfold has ptsAt; iexact Hs
    isplitl [Hd]; · unfold ptsAt; iexact Hd
    isplitl [HO]; · iexact HO
    isplitl [HtS]; · iexact HtS
    isplitr; · iapply (ctx_reached W K (c, some (t, false))); iexact Hc
    isplitl [HtR]; · iexact HtR
    iapply (ctx_reached W K (nb t.1 c, some (t, true))); iexact Hc
  iintro ⟨Hcr, HO⟩
  iapply Hk
  isplitl [HO]; · iexists Wt; iexact HO
  isplitl [HT]; · iexact HT
  isplitl [HC Hcr]
  · isplitl [HC]; · iexact HC
    iexact Hcr
  isplitl [HR]; · iexact HR
  isplitl [HZ]; · iexact HZ
  iexact Hh

/-- A wait on one of the device's own transfer cells: the payload comes, and the cell closes. -/
theorem wait_cell (c : Dev nD) (t : T) (b : Bool) (ts : List T)
    (hl : ∀ t' ∈ ts, lvOf (some (some (t, b))) < lvOf (some (some (t', true))))
    {m₂ : Memref sig .tc .vmem (shp t.2) (elt t.2)} {k₂ : Fin 8} (hm₂ : m₂ = slot k₂ t.2) {q : DmaSem sig} (hq : SemLoc.dma q = csem (some (t, b)))
    {s' : Shape} {e' : EltTy} {m₁ : Memref sig .tc .vmem s' e'} {hsrc : m₁.view.WordExact} {hdst : m₂.view.WordExact}
    {α : Type} {Q : α → sProp 𝕄} {k : PUnit → Prog (TpuEff nD τ sig (Elt F) Λ₀ .tc) α} :
    iprop(ctx W K ∗ owing c (owT c ts) ∗ atPos EX (kcell (c, some (t, b))) 0 ∅ 0 ∗ cred (tallyAt (kcell (c, some (t, b))) () (amt t.2)))
      ⊢ iprop((owing c (owT c ts) ∗ semVal (kcell (c, some (t, b))) 0
            ∗ bigSep ((Sch W).duties (kcell (c, some (t, b))) 0 \ ∅) (fun d => (Sch W).payload (kcell (c, some (t, b))) 0 d)
          -∗ runs c (k ⟨⟩) Q)
        -∗ runs c (.op (.waitDma2 q m₁ m₂ hsrc hdst) k) Q) := by
  subst hm₂
  unfold owing
  iintro ⟨#Hc, ⟨%Wt, HO⟩, Hat, Hcr⟩ Hk
  have hw : ∀ Kc : PUnit → sProp 𝕄, wpE (defs₀ (F := F)) 𝒱₀ (c : Thread nD τ) none Set.univ (.waitDma2 q m₁ (slot k₂ t.2) hsrc hdst) Kc
      = waitSpec (c : Thread nD τ) Set.univ (csem (some (t, b))) (amt t.2) Kc := fun Kc => by
    rw [← hq, ← amt_eq k₂ t.2]; rfl
  iapply (Rounds.wp_wait_rest_token 𝒱₀ EX (Sch W) (c : Thread nD τ) none (κ := K (c, some (t, b))) hw (Set.mem_univ _) ()
      (O := owT c ts) (W := Wt) (R := 0) (m := 0) (T := ∅) (by rw [Nat.zero_add]; exact (expect_xfer W c t b).symm)) $$ [HO Hat Hcr]
  · isplitr; · iapply (ctx_inv W K (c, some (t, b))); iexact Hc
    isplitl [Hcr]; · iexact Hcr
    isplitl [HO]; · iexact HO
    isplitr
    · iapply (mayWait c (csem (some (t, b))) ts [] (by rw [role_csem]; exact hl) (fun f hf => absurd hf List.not_mem_nil))
      iapply (ctx_lev W K); iexact Hc
    iexact Hat
  iintro ⟨HO, Hat, -, Hpay⟩
  imod (Rounds.cell_close EX (Sch W) (Set.mem_univ (K (c, some (t, b)))) (fun h => h) (R := 0 + 1) (duties_later W (kcell (c, some (t, b))))) $$ [Hat] with Hz
  · isplitr; · iapply (ctx_inv W K (c, some (t, b))); iexact Hc
    iexact Hat
  iapply Hk
  isplitl [HO]; · iexists _; iexact HO
  isplitl [Hz] <;> iassumption

theorem recv (c : Dev nD) (t : T) {o s r : ℕ} (hr : recvs[r]? = some t)
    (hl : ∀ t' ∈ sends.drop s, lvOf (some (some (t, true))) < lvOf (some (some (t', true))))
    (h₀ : stat o s r (dst t.1, t.2) = none) (h : ∀ x, stat o s (r + 1) x = if x = (dst t.1, t.2) then some 0 else stat o s r x)
    {m₂ : Memref sig .tc .vmem (shp t.2) (elt t.2)} (hm₂ : m₂ = slot (dst t.1) t.2) {q : DmaSem sig} (hq : q = rcvS t)
    {s' : Shape} {e' : EltTy} {m₁ : Memref sig .tc .vmem s' e'} {hsrc : m₁.view.WordExact} {hdst : m₂.view.WordExact}
    {α : Type} {Q : α → sProp 𝕄} {k : PUnit → Prog (TpuEff nD τ sig (Elt F) Λ₀ .tc) α} :
    iprop(ctx W K ∗ net W c o s r)
      ⊢ iprop((net W c o s (r + 1) -∗ runs c (k ⟨⟩) Q) -∗ runs c (.op (.waitDma2 q m₁ m₂ hsrc hdst) k) Q) := by
  unfold net
  rw [pop hr, push hr]
  unfold toRecv closedR
  iintro ⟨#Hc, HO, HT, HC, ⟨⟨Hat, Hcr⟩, HR⟩, HZ, Hh⟩ Hk
  iapply (wait_cell W K c t true (sends.drop s) hl hm₂ (congrArg SemLoc.dma hq)) $$ [HO Hat Hcr]
  · isplitr; · iexact Hc
    isplitl [HO]; · iexact HO
    isplitl [Hat] <;> iassumption
  iintro ⟨HO, Hz, Hpay⟩
  ihave Hs := (Entails.of_eq (rest_rcv W c t)) $$ Hpay
  iapply Hk
  isplitl [HO]; · iexact HO
  isplitl [HT]; · iexact HT
  isplitl [HC]; · iexact HC
  isplitl [HR]; · iexact HR
  isplitl [HZ Hz]; · isplitl [HZ] <;> iassumption
  iapply (held_put W c (dst t.1) t.2 h₀ h)
  isplitl [Hh]; · iexact Hh
  unfold rcvPay; iexact Hs

/-! ## The end: the sends waited for -/

def toBack (c : Dev nD) (t : T) : sProp 𝕄 := iprop(atPos EX (sndC c t) 0 ∅ 0 ∗ sent c t)
def back (c : Dev nD) (w : ℕ) : sProp 𝕄 :=
  iprop(owing c 0 ∗ bigSepL (backs.drop w) (toBack c) ∗ bigSepL (backs.take w) (fun t => iprop(semVal (sndC c t) 0 ∗ sndPay W c t)))

theorem backStep (c : Dev nD) (t : T) {w : ℕ} (hw : backs[w]? = some t)
    {m₂ : Memref sig .tc .vmem (shp t.2) (elt t.2)} (hm₂ : m₂ = slot (src t.1) t.2) {q : DmaSem sig} (hq : q = sndS t)
    {s' : Shape} {e' : EltTy} {m₁ : Memref sig .tc .vmem s' e'} {hsrc : m₁.view.WordExact} {hdst : m₂.view.WordExact}
    {α : Type} {Q : α → sProp 𝕄} {k : PUnit → Prog (TpuEff nD τ sig (Elt F) Λ₀ .tc) α} :
    iprop(ctx W K ∗ back W c w)
      ⊢ iprop((back W c (w + 1) -∗ runs c (k ⟨⟩) Q) -∗ runs c (.op (.waitDma2 q m₁ m₂ hsrc hdst) k) Q) := by
  unfold back
  rw [pop hw, push hw]
  unfold toBack sent
  iintro ⟨#Hc, HO, ⟨⟨Hat, Hcr⟩, HB⟩, HZ⟩ Hk
  iapply (wait_cell W K c t false [] (fun t' h => absurd h List.not_mem_nil) hm₂ (congrArg SemLoc.dma hq)) $$ [HO Hat Hcr]
  · isplitr; · iexact Hc
    isplitl [HO]; · iexact HO
    isplitl [Hat] <;> iassumption
  iintro ⟨HO, Hz, Hpay⟩
  ihave Hs := (Entails.of_eq (rest_snd W c t)) $$ Hpay
  iapply Hk
  isplitl [HO]; · iexact HO
  isplitl [HB]; · iexact HB
  isplitl [HZ]; · iexact HZ
  isplitl [Hz] <;> iassumption

/-! ## The handshake -/

def toHail (c : Dev nD) (f : Fin 5) : sProp 𝕄 :=
  iprop(dutyTok EX (barC (pv (fr f) c)) 0 f ∗ barPay (pv (fr f) c) f)
def hail (c : Dev nD) (i : ℕ) : sProp 𝕄 := iprop(owing c (owB c sends (hails.drop i)) ∗ bigSepL (hails.drop i) (toHail c))

theorem signal (c : Dev nD) (f : Fin 5) {i : ℕ} (hi : hails[i]? = some f) {c' : Dev nD} (hc : c' = pv (fr f) c)
    {α : Type} {Q : α → sProp 𝕄} {k : PUnit → Prog (TpuEff nD τ sig (Elt F) Λ₀ .tc) α} :
    iprop(ctx W K ∗ hail c i)
      ⊢ iprop((hail c (i + 1) -∗ runs c (k ⟨⟩) Q) -∗ runs c (.op (.semSignal (Dev.tc c' : Thread nD τ) barS 1) k) Q) := by
  subst hc
  unfold hail owing
  rw [pop hi, drop_get hi]
  unfold toHail
  iintro ⟨#Hc, ⟨%Wt, HO⟩, ⟨Ht, Hp⟩, HH⟩ Hk
  iapply (Rounds.wp_signal 𝒱₀ EX (Sch W) (c : Thread nD τ) none (dst := (pv (fr f) c : Thread nD τ)) (κ := K (pv (fr f) c, none)) (r := 0)
      (d := f) (by have := duties_bar W (pv (fr f) c); exact this ▸ Finset.mem_univ _) (amount_bar W (pv (fr f) c) f) ()
      (owB c sends (hails.drop (i + 1))) rfl (W := Wt)) $$ [HO Ht Hp]
  · isplitr; · iapply (ctx_inv W K (pv (fr f) c, none)); iexact Hc
    isplitl [HO]; · iexact HO
    isplitl [Ht]; · iexact Ht
    isplitl [Hp]
    · have e : barPay (pv (fr f) c) f = (Sch W).payload ((pv (fr f) c : Thread nD τ), SemLoc.reg barS) 0 f := (payload_bar W (pv (fr f) c) f).symm
      iapply (Entails.of_eq e); iexact Hp
    iapply (ctx_reached W K (pv (fr f) c, none)); iexact Hc
  iintro HO
  iapply Hk
  isplitl [HO]; · iexists Wt; iexact HO
  iexact HH

/-- The tokens of the transfers, before the landing slots are known. -/
def toks (c : Dev nD) (t : T) : sProp 𝕄 := iprop(dutyTok EX (sndC c t) 0 0 ∗ dutyTok EX (rcvC (nb t.1 c) t) 0 0)

theorem meet (c : Dev nD) {α : Type} {Q : α → sProp 𝕄} {k : PUnit → Prog (TpuEff nD τ sig (Elt F) Λ₀ .tc) α} :
    iprop(ctx W K ∗ hail c 5 ∗ (atPos EX (barC c) 0 ∅ 0 ∗ cred (tallyAt (barC c) () 5)) ∗ bigSepL sends (toks c) ∗ bigSepL recvs (toRecv c))
      ⊢ iprop((net W c 0 0 0 ∗ semVal (barC c) 0 -∗ runs c (k ⟨⟩) Q) -∗ runs c (.op (.semWait barS 5) k) Q) := by
  unfold hail owing
  iintro ⟨#Hc, ⟨⟨%Wt, HO⟩, -⟩, ⟨Hat, Hcr⟩, HT, HR⟩ Hk
  iapply (Rounds.wp_wait_rest_token 𝒱₀ EX (Sch W) (c : Thread nD τ) none (κ := K (c, none))
      (wpE_semWait_eq 𝒱₀ (c : Thread nD τ) none Set.univ) (Set.mem_univ _) () (O := owT c sends) (W := Wt) (R := 0) (m := 0) (T := ∅)
      (by rw [Nat.zero_add]; exact (expect_bar W c).symm)) $$ [HO Hat Hcr]
  · isplitr; · iapply (ctx_inv W K (c, none)); iexact Hc
    isplitl [Hcr]; · iexact Hcr
    isplitl [HO]; · iexact HO
    isplitr
    · iapply (mayWait c (csem none) sends [] (by rw [role_csem]; decide) (fun f hf => absurd hf List.not_mem_nil))
      iapply (ctx_lev W K); iexact Hc
    iexact Hat
  iintro ⟨HO, Hat, -, Hpay⟩
  have hrest : bigSep ((Sch (F := F) W).duties ((c : Thread nD τ), SemLoc.reg barS) 0 \ ∅) (fun d => (Sch (F := F) W).payload ((c : Thread nD τ), SemLoc.reg barS) 0 d)
    = bigSep Finset.univ (land (F := F) c) := rest_bar W c
  ihave Hl := (Entails.of_eq hrest) $$ Hpay
  imod (Rounds.cell_close EX (Sch W) (Set.mem_univ (K (c, none))) (fun h => h) (R := 0 + 1) (duties_later W (barC c))) $$ [Hat] with Hz
  · isplitr; · iapply (ctx_inv W K (c, none)); iexact Hc
    iexact Hat
  iapply Hk
  isplitr [Hz]
  · unfold net owing
    isplitl [HO]; · iexists _; iexact HO
    isplitl [HT Hl]
    · have e : (bigSep Finset.univ (land (F := F) c)) = bigSepL sends (land c) := bigSep_eq_bigSepL_of_eq sends sends_univ.1 sends_univ.2 _
      have e₁ : (bigSepL sends (toks (F := F) c)) = bigSep Finset.univ (toks c) := (bigSep_eq_bigSepL_of_eq sends sends_univ.1 sends_univ.2 _).symm
      have e₂ : bigSepL (sends.drop 0) (toSend (F := F) c) = bigSep Finset.univ (toSend c) := (bigSep_eq_bigSepL_of_eq sends sends_univ.1 sends_univ.2 _).symm
      have e₃ : bigSep Finset.univ (toSend (F := F) c) = iprop(bigSep Finset.univ (toks c) ∗ bigSep Finset.univ (land c)) := bigSep_sep' _ _ _
      ihave HT := (Entails.of_eq e₁) $$ HT
      iapply (Entails.of_eq (e₂.trans e₃).symm)
      isplitl [HT] <;> iassumption
    isplitr; · iempintro
    isplitl [HR]; · iexact HR
    isplitr; · iempintro
    have e : held W c (stat 0 0 0) = (iprop(emp) : sProp 𝕄) := by
      unfold held
      have h : ∀ x, stat 0 0 0 x = none := by decide
      rw [bigSep_congr (Ψ := fun _ => iprop(emp)) fun x _ => congrArg (slotAt W c x) (h x)]
      exact bigSep_emp_const _
    iapply (Entails.of_eq e.symm); iempintro
  iexact Hz

end Cert.Moe

end
-- ==== Proof.Memory.lean ====
/-
# `Memory`: loads from the slots, and the stores of the device's own experts
-/
module

public import proofs.«01_k».proof.Proof.Steps

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (W : Dev nD → (cc0_stg3_0 : Ref sig .tc).ty.Contents (Elt F))

theorem net_take (c : Dev nD) {o s r : ℕ} (k : Fin 8) (p : Fin 3) {n : ℕ} (h : stat o s r (k, p) = some n) :
    net W c o s r ⊢ iprop(has W c k p (rest n) ∗ (has W c k p (rest n) -∗ net W c o s r)) := by
  unfold net
  iintro ⟨HO, HT, HC, HR, HZ, Hh⟩
  ihave Hh := (held_take W c k p h) $$ Hh
  icases Hh with ⟨Hs, Hh⟩
  isplitl [Hs]; · iexact Hs
  iintro Hs
  isplitl [HO]; · iexact HO
  isplitl [HT]; · iexact HT
  isplitl [HC]; · iexact HC
  isplitl [HR]; · iexact HR
  isplitl [HZ]; · iexact HZ
  iapply Hh; iexact Hs

theorem net_own (c : Dev nD) {o s r : ℕ} (p : Fin 3) (h₀ : stat o s r (0, p) = none)
    (h : ∀ x, stat (o + 1) s r x = if x = (0, p) then some 0 else stat o s r x) :
    iprop(net W c o s r ∗ has W c 0 p fullShare) ⊢ net W c (o + 1) s r := by
  unfold net
  iintro ⟨⟨HO, HT, HC, HR, HZ, Hh⟩, Hs⟩
  isplitl [HO]; · iexact HO
  isplitl [HT]; · iexact HT
  isplitl [HC]; · iexact HC
  isplitl [HR]; · iexact HR
  isplitl [HZ]; · iexact HZ
  iapply (held_put W c 0 p h₀ h)
  isplitl [Hh]; · iexact Hh
  iexact Hs

section Rects

variable {S s' : Shape} {e : EltTy} {m : Memref sig .tc .vmem S e} {R R2 : Rect S} {h2 : ∀ a, R2.stride a = 1} {hq : R2.shape.Squeezes s'}
  {g : R.shape.Idx → s'.Idx}

theorem emb_rect (hg : ∀ x, R.emb x = R2.emb (Shape.reshapeEquiv hq.numel_eq (g x))) (x : R.shape.Idx) :
    (m.access R).emb x = ((m.slice R2 h2).squeeze s' hq).view.emb (g x) := by
  show m.view.emb (R.emb x) = m.view.emb (R2.emb _)
  rw [hg x]; rfl

theorem setOn_rect (hg : ∀ x, R.emb x = R2.emb (Shape.reshapeEquiv hq.numel_eq (g x))) (M : Finset R.shape.Idx) :
    (m.access R).setOn M ⊆ ((m.slice R2 h2).squeeze s' hq).view.set := by
  intro i hi
  obtain ⟨x, hx, rfl⟩ := Finset.mem_map.mp hi
  rw [emb_rect (h2 := h2) (hq := hq) hg x]
  exact Finset.mem_map_of_mem _ (Finset.mem_univ _)

theorem load_any_rect (c : Dev nD) (hg : ∀ x, R.emb x = R2.emb (Shape.reshapeEquiv hq.numel_eq (g x))) (q : PosShare TreeShare)
    (f : Buf (Elt F) (((m.slice R2 h2).squeeze s' hq).view.loc (c : Thread nD τ)))
    {hl : m.view.LoadsAt R.toLoadRect} {α : Type} {Q : α → sProp 𝕄} {kk : (R.shape.Idx → Elt F e) → Prog (TpuEff nD τ sig (Elt F) Λ₀ .tc) α} :
    (((m.slice R2 h2).squeeze s' hq).view.loc (c : Thread nD τ) ↦[((m.slice R2 h2).squeeze s' hq).view.set]{q} f)
      ⊢ iprop(((((m.slice R2 h2).squeeze s' hq).view.loc (c : Thread nD τ) ↦[((m.slice R2 h2).squeeze s' hq).view.set]{q} f)
          -∗ runs c (kk ((m.access R).read (Elt F) f)) Q)
        -∗ runs c (.op (.load m R.toLoadRect hl) kk) Q) :=
  wp_load_rect 𝒱₀ (c : Thread nD τ) none Set.univ (m := m) (r := R) (S := ((m.slice R2 h2).squeeze s' hq).view.set)
    (setOn_rect (h2 := h2) (hq := hq) hg Finset.univ)

theorem read_rect (hg : ∀ x, R.emb x = R2.emb (Shape.reshapeEquiv hq.numel_eq (g x))) (v : s'.Idx → Elt F e) :
    (m.access R).read (Elt F) (((m.slice R2 h2).squeeze s' hq).view.rep v) = fun x => v (g x) := by
  funext x
  rw [View.read_apply, emb_rect (h2 := h2) (hq := hq) hg x]
  exact (congrArg _ (View.rep_emb ((m.slice R2 h2).squeeze s' hq).view v (g x))).trans (by rw [cast_cast, cast_eq])

theorem write_rect (hg : ∀ x, R.emb x = R2.emb (Shape.reshapeEquiv hq.numel_eq (g x))) (v v' : s'.Idx → Elt F e) {w : R.shape.Idx → Elt F e}
    (hw : ∀ x, v' (g x) = w x) (hv : ∀ y, (∀ x, y ≠ g x) → v' y = v y) :
    ∀ i ∈ ((m.slice R2 h2).squeeze s' hq).view.set,
      (m.access R).write (Elt F) (((m.slice R2 h2).squeeze s' hq).view.rep v) w Finset.univ i = ((m.slice R2 h2).squeeze s' hq).view.rep v' i := by
  intro i hi
  obtain ⟨y, -, rfl⟩ := Finset.mem_map.mp hi
  by_cases hy : ∃ x, y = g x
  · obtain ⟨x, rfl⟩ := hy
    rw [View.rep_emb, hw x, ← emb_rect (h2 := h2) (hq := hq) hg x]
    exact View.write_emb_of_mem _ _ (Finset.mem_univ x)
  · have hn : ((m.slice R2 h2).squeeze s' hq).view.emb y ∉ (m.access R).setOn Finset.univ := fun hm => by
      obtain ⟨x, -, ex⟩ := Finset.mem_map.mp hm
      rw [emb_rect (h2 := h2) (hq := hq) hg x] at ex
      exact hy ⟨x, (((m.slice R2 h2).squeeze s' hq).view.emb.injective ex).symm⟩
    rw [View.rep_emb, hv y fun x hx => hy ⟨x, hx⟩, ← View.rep_emb]
    exact View.write_of_not_mem _ _ _ hn

theorem store_rect (c : Dev nD) (hg : ∀ x, R.emb x = R2.emb (Shape.reshapeEquiv hq.numel_eq (g x))) (v v' : s'.Idx → Elt F e)
    {w : R.shape.Idx → Elt F e} (hw : ∀ x, v' (g x) = w x) (hv : ∀ y, (∀ x, y ≠ g x) → v' y = v y)
    {hx : (m.access R).Stores Finset.univ} {hm : (Finset.univ : Finset R.shape.Idx) = Finset.univ ∨ ∀ a, R.stride a = 1}
    {α : Type} {Q : α → sProp 𝕄} {kk : PUnit → Prog (TpuEff nD τ sig (Elt F) Λ₀ .tc) α} :
    (((m.slice R2 h2).squeeze s' hq).view.loc (c : Thread nD τ) ↦[((m.slice R2 h2).squeeze s' hq).view.set]{fullShare}
        ((m.slice R2 h2).squeeze s' hq).view.rep v)
      ⊢ iprop(((((m.slice R2 h2).squeeze s' hq).view.loc (c : Thread nD τ) ↦[((m.slice R2 h2).squeeze s' hq).view.set]{fullShare}
            ((m.slice R2 h2).squeeze s' hq).view.rep v') -∗ runs c (kk ⟨⟩) Q)
        -∗ runs c (.op (.store m R w Finset.univ hx hm) kk) Q) := by
  have h : ((m.access R).loc (c : Thread nD τ) ↦[((m.slice R2 h2).squeeze s' hq).view.set]{fullShare}
        (((m.slice R2 h2).squeeze s' hq).view.rep v : Buf (Elt F) ((m.access R).loc (c : Thread nD τ))))
      ⊢ iprop((((m.access R).loc (c : Thread nD τ) ↦[((m.slice R2 h2).squeeze s' hq).view.set]{fullShare}
        ((m.access R).write (Elt F) (((m.slice R2 h2).squeeze s' hq).view.rep v) w Finset.univ)) -∗ runs c (kk ⟨⟩) Q)
        -∗ runs c (.op (.store m R w Finset.univ hx hm) kk) Q) :=
    wp_store 𝒱₀ (c : Thread nD τ) none Set.univ (m := m) (r := R) (w := w) (Mk := Finset.univ) (setOn_rect (h2 := h2) (hq := hq) hg Finset.univ)
  have e : ((m.access R).loc (c : Thread nD τ) ↦[((m.slice R2 h2).squeeze s' hq).view.set]{fullShare}
        ((m.access R).write (Elt F) (((m.slice R2 h2).squeeze s' hq).view.rep v) w Finset.univ) : sProp 𝕄)
      = ((m.access R).loc (c : Thread nD τ) ↦[((m.slice R2 h2).squeeze s' hq).view.set]{fullShare}
        (((m.slice R2 h2).squeeze s' hq).view.rep v' : Buf (Elt F) ((m.access R).loc (c : Thread nD τ)))) :=
    pointsTo_congr (write_rect (m := m) (h2 := h2) (hq := hq) hg v v' hw hv)
  rw [e] at h
  exact h

end Rects

section Loads

variable {S : Shape} {p : Fin 3} {m : Memref sig .tc .vmem S (elt p)} {R R2 : Rect S} {h2 : ∀ a, R2.stride a = 1} {hq : R2.shape.Squeezes (shp p)}

/-- A load from a slot that is a rectangle of its buffer: element `x` of what is loaded is element `g x` of the slot. -/
theorem load_sq (c : Dev nD) {o s r : ℕ} (k : Fin 8) {n : ℕ} (h : stat o s r (k, p) = some n)
    (hsl : slot k p = (m.slice R2 h2).squeeze (shp p) hq)
    (g : R.shape.Idx → (shp p).Idx) (hg : ∀ x, R.emb x = R2.emb (Shape.reshapeEquiv hq.numel_eq (g x)))
    {hl : m.view.LoadsAt R.toLoadRect} {α : Type} {Q : α → sProp 𝕄} {kk : (R.shape.Idx → Elt F (elt p)) → Prog (TpuEff nD τ sig (Elt F) Λ₀ .tc) α} :
    net W c o s r ⊢ iprop((net W c o s r -∗ runs c (kk fun x => val (W (fwd k.val c)) p (g x)) Q)
      -∗ runs c (.op (.load m R.toLoadRect hl) kk) Q) := by
  have gen := load_any_rect c (h2 := h2) (hq := hq) hg (rest n) (((m.slice R2 h2).squeeze (shp p) hq).view.rep (val (W (fwd k.val c)) p)) (hl := hl) (Q := Q) (kk := kk)
  rw [read_rect (h2 := h2) (hq := hq) hg, ← hsl] at gen
  iintro Hn Hk
  ihave Hn := (net_take W c k p h) $$ Hn
  icases Hn with ⟨Hs, Hn⟩
  unfold has ptsAt
  iapply gen $$ [Hs]
  · iexact Hs
  iintro Hs
  iapply Hk
  iapply Hn; iexact Hs

/-- The same where the load is of the whole slot, reshaped. -/
theorem load_tile (c : Dev nD) {o s r : ℕ} (k : Fin 8) {n : ℕ} (h : stat o s r (k, p) = some n) {R : Rect S} {h2 : ∀ a, R.stride a = 1}
    {hq : R.shape.Squeezes (shp p)} (hsl : slot k p = (m.slice R h2).squeeze (shp p) hq)
    {hl : m.view.LoadsAt R.toLoadRect} {α : Type} {Q : α → sProp 𝕄} {kk : (R.shape.Idx → Elt F (elt p)) → Prog (TpuEff nD τ sig (Elt F) Λ₀ .tc) α} :
    net W c o s r ⊢ iprop((net W c o s r -∗ runs c (kk (shapeCast R.shape (val (W (fwd k.val c)) p) hq.numel_eq.symm)) Q)
      -∗ runs c (.op (.load m R.toLoadRect hl) kk) Q) :=
  load_sq W c k h hsl (fun x => Shape.reshapeEquiv hq.numel_eq.symm x) fun x => by
    rw [Shape.reshapeEquiv_reshapeEquiv, Shape.reshapeEquiv_self]

/-- A load from a slot that is a whole buffer. -/
theorem load_whole (c : Dev nD) {o s r : ℕ} (k : Fin 8) {n : ℕ} (h : stat o s r (k, p) = some n) {m : Memref sig .tc .vmem (shp p) (elt p)} {R : Rect (shp p)}
    (hsl : slot k p = m) {hl : m.view.LoadsAt R.toLoadRect} {α : Type} {Q : α → sProp 𝕄} {kk : (R.shape.Idx → Elt F (elt p)) → Prog (TpuEff nD τ sig (Elt F) Λ₀ .tc) α} :
    net W c o s r ⊢ iprop((net W c o s r -∗ runs c (kk fun x => val (W (fwd k.val c)) p (R.emb x)) Q)
      -∗ runs c (.op (.load m R.toLoadRect hl) kk) Q) := by
  subst hsl
  iintro Hn Hk
  ihave Hn := (net_take W c k p h) $$ Hn
  icases Hn with ⟨Hs, Hn⟩
  unfold has ptsAt
  iapply (wp_load 𝒱₀ (c : Thread nD τ) none Set.univ (m := slot k p) (r := R.toLoadRect) (View.setOn_subset_set _ _)) $$ [Hs]
  · iexact Hs
  iintro Hs
  rw [View.readAt_rep]
  iapply Hk
  iapply Hn; iexact Hs

end Loads

/-! ## The device's own experts -/

section Own

variable {S : Shape} {p : Fin 3} {m : Memref sig .tc .vmem S (elt p)} {R R2 : Rect S} {h2 : ∀ a, R2.stride a = 1} {hq : R2.shape.Squeezes (shp p)}

/-- A slot that holds `v`. -/
def holds (c : Dev nD) (k : Fin 8) (p : Fin 3) (v : (shp p).Idx → Elt F (elt p)) : sProp 𝕄 := ptsAt c k p fullShare ((slot k p).view.rep v)

/-- A load whose value is not used, from a slot of any contents. -/
theorem load_any (c : Dev nD) (k : Fin 8) (hsl : slot k p = (m.slice R2 h2).squeeze (shp p) hq)
    (g : R.shape.Idx → (shp p).Idx) (hg : ∀ x, R.emb x = R2.emb (Shape.reshapeEquiv hq.numel_eq (g x))) (v : (shp p).Idx → Elt F (elt p))
    {hl : m.view.LoadsAt R.toLoadRect} {α : Type} {Q : α → sProp 𝕄} {kk : (R.shape.Idx → Elt F (elt p)) → Prog (TpuEff nD τ sig (Elt F) Λ₀ .tc) α} :
    holds c k p v ⊢ iprop((holds c k p v -∗ runs c (kk fun x => v (g x)) Q) -∗ runs c (.op (.load m R.toLoadRect hl) kk) Q) := by
  have gen := load_any_rect c (h2 := h2) (hq := hq) hg fullShare (((m.slice R2 h2).squeeze (shp p) hq).view.rep v) (hl := hl) (Q := Q) (kk := kk)
  rw [read_rect (h2 := h2) (hq := hq) hg, ← hsl] at gen
  exact gen

/-- A store into a slot. -/
theorem store_sq (c : Dev nD) (k : Fin 8) (hsl : slot k p = (m.slice R2 h2).squeeze (shp p) hq)
    (g : R.shape.Idx → (shp p).Idx) (hg : ∀ x, R.emb x = R2.emb (Shape.reshapeEquiv hq.numel_eq (g x)))
    (v v' : (shp p).Idx → Elt F (elt p)) {w : R.shape.Idx → Elt F (elt p)}
    (hw : ∀ x, v' (g x) = w x) (hv : ∀ y, (∀ x, y ≠ g x) → v' y = v y)
    {hx : (m.access R).Stores Finset.univ} {hm : (Finset.univ : Finset R.shape.Idx) = Finset.univ ∨ ∀ a, R.stride a = 1}
    {α : Type} {Q : α → sProp 𝕄} {kk : PUnit → Prog (TpuEff nD τ sig (Elt F) Λ₀ .tc) α} :
    holds c k p v ⊢ iprop((holds c k p v' -∗ runs c (kk ⟨⟩) Q) -∗ runs c (.op (.store m R w Finset.univ hx hm) kk) Q) := by
  have gen := store_rect c (h2 := h2) (hq := hq) hg v v' hw hv (hx := hx) (hm := hm) (Q := Q) (kk := kk)
  rw [← hsl] at gen
  exact gen

end Own

theorem anyAt_holds (c : Dev nD) (k : Fin 8) (p : Fin 3) : anyAt (F := F) c k p ⊢ iprop(∃ v, holds c k p v) := by
  unfold anyAt ptsAt holds ptsAt
  iintro ⟨%f, H⟩
  iexists ((slot k p).view.read (Elt F) f)
  iapply (Entails.of_eq (pointsTo_rep (c : Thread nD τ) (slot k p) f fullShare)); iexact H

/-- The two rows of scales with the first alone stored. -/
def half (w : (cc0_stg3_0 : Ref sig .tc).ty.Contents (Elt F)) (v : Vec F S2x512 .f32) : Vec F S2x512 .f32 := fun y =>
  if (y 0).val = 0 then k0_pay4 (exp0 w) (ix3 0 0 (y 1)) else v y

end Cert.Moe

end
-- ==== Proof.Frames.lean ====
/-
# `Frames`: one step of the body in a device's whole state

The state is what all devices know, the state of the exchange, the staging buffers and the accumulator, and the rest.
-/
module

public import proofs.«01_k».proof.Proof.Memory

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → (cc0_stg0_0 : Ref sig .tc).ty.Contents (Elt F)) (G : Dev nD → (cc0_stg1_0 : Ref sig .tc).ty.Contents (Elt F))
  (I : Dev nD → (cc0_stg2_0 : Ref sig .tc).ty.Contents (Elt F)) (W : Dev nD → (cc0_stg3_0 : Ref sig .tc).ty.Contents (Elt F))
variable (K : Dev nD × Cel → ℕ)

/-! ## Chaining -/

section Chain

theorem step {C A B R X Y : sProp 𝕄} [BI.Persistent C] (h : iprop(C ∗ A) ⊢ iprop((B -∗ X) -∗ Y)) (n : iprop(C ∗ B ∗ R) ⊢ X) : iprop(C ∗ A ∗ R) ⊢ Y := by
  iintro ⟨#HC, HA, HR⟩
  iapply h $$ [HA]
  · isplitr; · iexact HC
    iexact HA
  iintro HB
  iapply n
  isplitr; · iexact HC
  isplitl [HB] <;> iassumption

theorem stepN {C A B R X Y : sProp 𝕄} (h : A ⊢ iprop((B -∗ X) -∗ Y)) (n : iprop(C ∗ B ∗ R) ⊢ X) : iprop(C ∗ A ∗ R) ⊢ Y := by
  iintro ⟨HC, HA, HR⟩
  iapply h $$ [HA]
  · iexact HA
  iintro HB
  iapply n
  isplitl [HC]; · iexact HC
  isplitl [HB] <;> iassumption

theorem stepM {C N M M' P P' R X Y : sProp 𝕄} (g : M ⊢ iprop(P ∗ (P' -∗ M'))) (h : P ⊢ iprop((P' -∗ X) -∗ Y)) (n : iprop(C ∗ N ∗ M' ∗ R) ⊢ X) : iprop(C ∗ N ∗ M ∗ R) ⊢ Y := by
  iintro ⟨HC, HN, HM, HR⟩
  ihave HM := g $$ HM
  icases HM with ⟨HP, HM⟩
  iapply h $$ [HP]
  · iexact HP
  iintro HP
  iapply n
  isplitl [HC]; · iexact HC
  isplitl [HN]; · iexact HN
  isplitr [HR]; · iapply HM; iexact HP
  iexact HR

end Chain

/-! ## The staging buffers and the accumulator -/

abbrev pt (c : Dev nD) (b : Ref sig .tc) (f : b.ty.Contents (Elt F)) : sProp 𝕄 := ((c : Thread nD τ).loc b) ↦{fullShare} (f : Buf (Elt F) ((c : Thread nD τ).loc b))

/-- Inputs, accumulator and result of device `c`. -/
def mem (c : Dev nD) (a : (cc0_scratch0 : Ref sig .tc).ty.Contents (Elt F)) (o : (cc0_stg4_0 : Ref sig .tc).ty.Contents (Elt F)) : sProp 𝕄 :=
  iprop(pt c cc0_stg0_0 (X c) ∗ pt c cc0_stg1_0 (G c) ∗ pt c cc0_stg2_0 (I c) ∗ pt c cc0_stg3_0 (W c) ∗ pt c cc0_scratch0 a ∗ pt c cc0_stg4_0 o)

section Mem
variable (c : Dev nD) {a : (cc0_scratch0 : Ref sig .tc).ty.Contents (Elt F)} {o : (cc0_stg4_0 : Ref sig .tc).ty.Contents (Elt F)}

theorem mem_x : mem X G I W c a o ⊢ iprop(pt c cc0_stg0_0 (X c) ∗ (pt c cc0_stg0_0 (X c) -∗ mem X G I W c a o)) := by
  unfold mem
  iintro ⟨H0, HR⟩
  isplitl [H0]; · iexact H0
  iintro H0; isplitl [H0] <;> iassumption
theorem mem_g : mem X G I W c a o ⊢ iprop(pt c cc0_stg1_0 (G c) ∗ (pt c cc0_stg1_0 (G c) -∗ mem X G I W c a o)) := by
  unfold mem
  iintro ⟨H0, H1, HR⟩
  isplitl [H1]; · iexact H1
  iintro H1; isplitl [H0]; · iexact H0
  isplitl [H1] <;> iassumption
theorem mem_i : mem X G I W c a o ⊢ iprop(pt c cc0_stg2_0 (I c) ∗ (pt c cc0_stg2_0 (I c) -∗ mem X G I W c a o)) := by
  unfold mem
  iintro ⟨H0, H1, H2, HR⟩
  isplitl [H2]; · iexact H2
  iintro H2; isplitl [H0]; · iexact H0
  isplitl [H1]; · iexact H1
  isplitl [H2] <;> iassumption
theorem mem_w : mem X G I W c a o ⊢ iprop(pt c cc0_stg3_0 (W c) ∗ (pt c cc0_stg3_0 (W c) -∗ mem X G I W c a o)) := by
  unfold mem
  iintro ⟨H0, H1, H2, H3, HR⟩
  isplitl [H3]; · iexact H3
  iintro H3; isplitl [H0]; · iexact H0
  isplitl [H1]; · iexact H1
  isplitl [H2]; · iexact H2
  isplitl [H3] <;> iassumption
theorem mem_a (a' : (cc0_scratch0 : Ref sig .tc).ty.Contents (Elt F)) :
    mem X G I W c a o ⊢ iprop(pt c cc0_scratch0 a ∗ (pt c cc0_scratch0 a' -∗ mem X G I W c a' o)) := by
  unfold mem
  iintro ⟨H0, H1, H2, H3, H4, H5⟩
  isplitl [H4]; · iexact H4
  iintro H4; isplitl [H0]; · iexact H0
  isplitl [H1]; · iexact H1
  isplitl [H2]; · iexact H2
  isplitl [H3]; · iexact H3
  isplitl [H4] <;> iassumption
theorem mem_o (o' : (cc0_stg4_0 : Ref sig .tc).ty.Contents (Elt F)) :
    mem X G I W c a o ⊢ iprop(pt c cc0_stg4_0 o ∗ (pt c cc0_stg4_0 o' -∗ mem X G I W c a o')) := by
  unfold mem
  iintro ⟨H0, H1, H2, H3, H4, H5⟩
  isplitl [H5]; · iexact H5
  iintro H5; isplitl [H0]; · iexact H0
  isplitl [H1]; · iexact H1
  isplitl [H2]; · iexact H2
  isplitl [H3]; · iexact H3
  isplitl [H4] <;> iassumption

theorem load_buf {S : Shape} {e : EltTy} {m : Memref sig .tc .vmem S e} {R : Rect S} (f : Buf (Elt F) ((m.access R).loc (c : Thread nD τ)))
    {v : R.shape.Idx → Elt F e} (hv : (m.access R).read (Elt F) f = v)
    {hl : m.view.LoadsAt R.toLoadRect} {α : Type} {Q : α → sProp 𝕄} {kk : (R.shape.Idx → Elt F e) → Prog (TpuEff nD τ sig (Elt F) Λ₀ .tc) α} :
    ((m.access R).loc (c : Thread nD τ) ↦{fullShare} f) ⊢ iprop((((m.access R).loc (c : Thread nD τ) ↦{fullShare} f) -∗ runs c (kk v) Q)
      -∗ runs c (.op (.load m R.toLoadRect hl) kk) Q) := by
  subst hv
  exact wp_load_rect 𝒱₀ (c : Thread nD τ) none Set.univ (m := m) (r := R) (S := Finset.univ) (Finset.subset_univ _)

theorem store_buf {S : Shape} {e : EltTy} {m : Memref sig .tc .vmem S e} {R : Rect S} (f : Buf (Elt F) ((m.access R).loc (c : Thread nD τ)))
    {f' : Buf (Elt F) ((m.access R).loc (c : Thread nD τ))} {w : R.shape.Idx → Elt F e} (hf : (m.access R).write (Elt F) f w Finset.univ = f')
    {hx : (m.access R).Stores Finset.univ} {hm : (Finset.univ : Finset R.shape.Idx) = Finset.univ ∨ ∀ a, R.stride a = 1}
    {α : Type} {Q : α → sProp 𝕄} {kk : PUnit → Prog (TpuEff nD τ sig (Elt F) Λ₀ .tc) α} :
    ((m.access R).loc (c : Thread nD τ) ↦{fullShare} f) ⊢ iprop((((m.access R).loc (c : Thread nD τ) ↦{fullShare} f') -∗ runs c (kk ⟨⟩) Q)
      -∗ runs c (.op (.store m R w Finset.univ hx hm) kk) Q) := by
  subst hf
  exact wp_store 𝒱₀ (c : Thread nD τ) none Set.univ (m := m) (r := R) (w := w) (Mk := Finset.univ) (S := Finset.univ) (f := f) (Finset.subset_univ _)

end Mem

theorem zero2 : (![0, 0] : Fin 2 → ℕ) = fun _ => 0 := funext fun a => by fin_cases a <;> rfl

universe u

/-- A function of the body's buffers and semaphores, at those the pipeline calls the body with. -/
abbrev at0 {β : Sort u} (f : (arg0 : Memref sig .tc .vmem S512x256 .bf16) → (harg0 : arg0.IsWhole) → (arg1 : Memref sig .tc .vmem S256x16
    .bf16) → (harg1 : arg1.IsWhole) → (arg2 : Memref sig .tc .vmem S512x2 .i32) → (harg2 : arg2.IsWhole) → (arg3 : Memref sig .tc .vmem
    S2x256x512 .bf16) → (harg3 : arg3.IsWhole) → (arg4 : Memref sig .tc .vmem S512x512 .bf16) → (harg4 : arg4.IsWhole) → (arg5 : Memref sig
    .tc .vmem S512x512 .f32) → (harg5 : arg5.IsWhole) → (arg6 : Memref sig .tc .vmem S3x2x256x512 .i8) → (harg6 : arg6.IsWhole) → (arg7 :
    Memref sig .tc .vmem S2x2x256x512 .i8) → (harg7 : arg7.IsWhole) → (arg8 : Memref sig .tc .vmem S2x256x512 .i8) → (harg8 : arg8.IsWhole) →
    (arg9 : Memref sig .tc .vmem S2x256x512 .i8) → (harg9 : arg9.IsWhole) → (arg10 : Memref sig .tc .vmem S2x256x512 .i8) → (harg10 :
    arg10.IsWhole) → (arg11 : Memref sig .tc .vmem S3x2x512 .f32) → (harg11 : arg11.IsWhole) → (arg12 : Memref sig .tc .vmem S2x2x512 .f32) →
    (harg12 : arg12.IsWhole) → (arg13 : Memref sig .tc .vmem S2x512 .f32) → (harg13 : arg13.IsWhole) → (arg14 : Memref sig .tc .vmem S2x512
    .f32) → (harg14 : arg14.IsWhole) → (arg15 : Memref sig .tc .vmem S2x512 .f32) → (harg15 : arg15.IsWhole) → (arg16 : DmaSems sig S2x2) →
    (arg17 : DmaSems sig S2x2) → (arg18 : DmaSems sig S2x2) → (arg19 : DmaSems sig S2x2) → (arg20 : DmaSems sig S2) → (arg21 : DmaSems sig
    S2) → (arg22 : DmaSems sig S2) → (arg23 : DmaSems sig S2) → (arg24 : DmaSems sig S2) → (arg25 : DmaSems sig S2) → (arg26 : DmaSems sig
    S2) → (arg27 : DmaSems sig S2) → (arg28 : DmaSems sig S2) → (arg29 : DmaSems sig S2) → (arg30 : DmaSems sig S2) → (arg31 : DmaSems sig
    S2) → (arg32 : DmaSems sig S2) → β) : β :=
  f (Memref.whole cc0_stg0_0) (Memref.isWhole_whole _) (Memref.whole cc0_stg1_0) (Memref.isWhole_whole _) (Memref.whole cc0_stg2_0)
    (Memref.isWhole_whole _) (Memref.whole cc0_stg3_0) (Memref.isWhole_whole _) (Memref.whole cc0_stg4_0) (Memref.isWhole_whole _)
    (Memref.whole cc0_scratch0) (Memref.isWhole_whole _) (Memref.whole cc0_scratch1) (Memref.isWhole_whole _) (Memref.whole cc0_scratch2)
    (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7)
    (Memref.isWhole_whole _) (Memref.whole cc0_scratch8) (Memref.isWhole_whole _) (Memref.whole cc0_scratch9) (Memref.isWhole_whole _)
    (Memref.whole cc0_scratch10) (Memref.isWhole_whole _) cc0_scratch11 cc0_scratch12 cc0_scratch13 cc0_scratch14 cc0_scratch15 cc0_scratch16
    cc0_scratch17 cc0_scratch18 cc0_scratch19 cc0_scratch20 cc0_scratch21 cc0_scratch22 cc0_scratch23 cc0_scratch24 cc0_scratch25
    cc0_scratch26 cc0_scratch27

/-! ## The devices signalled and sent to -/

theorem hail1 (c : Dev nD) : (⟨k0_dev1 c, k0_dev1_lt c⟩ : Dev nD) = pv (fr 0) c := Fin.ext (k0_dev1_eq c)
theorem hail2 (c : Dev nD) : (⟨k0_dev2 c, k0_dev2_lt c⟩ : Dev nD) = pv (fr 1) c := Fin.ext (k0_dev2_eq c)
theorem hail3 (c : Dev nD) : (⟨k0_dev3 c, k0_dev3_lt c⟩ : Dev nD) = pv (fr 2) c := Fin.ext (k0_dev3_eq c)
theorem hail4 (c : Dev nD) : (⟨k0_dev4 c, k0_dev4_lt c⟩ : Dev nD) = pv (fr 4) c := Fin.ext (k0_dev4_eq c)
theorem hail5 (c : Dev nD) : (⟨k0_dev5 c, k0_dev5_lt c⟩ : Dev nD) = pv (fr 3) c := Fin.ext (k0_dev5_eq c)
theorem to6 (c : Dev nD) : (⟨k0_dev6 c, k0_dev6_lt c⟩ : Dev nD) = nb 0 c := Fin.ext (k0_dev6_eq c)
theorem to7 (c : Dev nD) : (⟨k0_dev7 c, k0_dev7_lt c⟩ : Dev nD) = nb 1 c := Fin.ext (k0_dev7_eq c)
theorem to8 (c : Dev nD) : (⟨k0_dev8 c, k0_dev8_lt c⟩ : Dev nD) = nb 2 c := Fin.ext (k0_dev8_eq c)
theorem to9 (c : Dev nD) : (⟨k0_dev9 c, k0_dev9_lt c⟩ : Dev nD) = nb 3 c := Fin.ext (k0_dev9_eq c)
theorem to10 (c : Dev nD) : (⟨k0_dev10 c, k0_dev10_lt c⟩ : Dev nD) = nb 4 c := Fin.ext (k0_dev10_eq c)
theorem to11 (c : Dev nD) : (⟨k0_dev11 c, k0_dev11_lt c⟩ : Dev nD) = nb 0 c := Fin.ext (k0_dev11_eq c)
theorem to12 (c : Dev nD) : (⟨k0_dev12 c, k0_dev12_lt c⟩ : Dev nD) = nb 1 c := Fin.ext (k0_dev12_eq c)
theorem to13 (c : Dev nD) : (⟨k0_dev13 c, k0_dev13_lt c⟩ : Dev nD) = nb 2 c := Fin.ext (k0_dev13_eq c)
theorem to14 (c : Dev nD) : (⟨k0_dev14 c, k0_dev14_lt c⟩ : Dev nD) = nb 3 c := Fin.ext (k0_dev14_eq c)
theorem to15 (c : Dev nD) : (⟨k0_dev15 c, k0_dev15_lt c⟩ : Dev nD) = nb 4 c := Fin.ext (k0_dev15_eq c)
theorem to16 (c : Dev nD) : (⟨k0_dev16 c, k0_dev16_lt c⟩ : Dev nD) = nb 0 c := Fin.ext (k0_dev16_eq c)
theorem to17 (c : Dev nD) : (⟨k0_dev17 c, k0_dev17_lt c⟩ : Dev nD) = nb 1 c := Fin.ext (k0_dev17_eq c)
theorem to18 (c : Dev nD) : (⟨k0_dev18 c, k0_dev18_lt c⟩ : Dev nD) = nb 2 c := Fin.ext (k0_dev18_eq c)
theorem to19 (c : Dev nD) : (⟨k0_dev19 c, k0_dev19_lt c⟩ : Dev nD) = nb 3 c := Fin.ext (k0_dev19_eq c)
theorem to20 (c : Dev nD) : (⟨k0_dev20 c, k0_dev20_lt c⟩ : Dev nD) = nb 4 c := Fin.ext (k0_dev20_eq c)
theorem to21 (c : Dev nD) : (⟨k0_dev21 c, k0_dev21_lt c⟩ : Dev nD) = nb 5 c := Fin.ext (k0_dev21_eq c)
theorem to22 (c : Dev nD) : (⟨k0_dev22 c, k0_dev22_lt c⟩ : Dev nD) = nb 6 c := Fin.ext (k0_dev22_eq c)
theorem to23 (c : Dev nD) : (⟨k0_dev23 c, k0_dev23_lt c⟩ : Dev nD) = nb 5 c := Fin.ext (k0_dev23_eq c)
theorem to24 (c : Dev nD) : (⟨k0_dev24 c, k0_dev24_lt c⟩ : Dev nD) = nb 6 c := Fin.ext (k0_dev24_eq c)
theorem to25 (c : Dev nD) : (⟨k0_dev25 c, k0_dev25_lt c⟩ : Dev nD) = nb 5 c := Fin.ext (k0_dev25_eq c)
theorem to26 (c : Dev nD) : (⟨k0_dev26 c, k0_dev26_lt c⟩ : Dev nD) = nb 6 c := Fin.ext (k0_dev26_eq c)

/-! ## The rows of scales in the buffers that hold several -/

theorem row11 (h j : ℕ) (hj : j < 2) (p : ∀ i, (![h, j, 0] : Fin 3 → ℕ) i + S1x1x512.size i ≤ S3x2x512.size i)
    (p2 : ∀ i, (![h, 0, 0] : Fin 3 → ℕ) i + S1x2x512.size i ≤ S3x2x512.size i)
    (x : (Rect.unit (s := S3x2x512) ![h, j, 0] S1x1x512.size p).shape.Idx) :
    (Rect.unit (s := S3x2x512) ![h, j, 0] S1x1x512.size p).emb x
      = (Rect.unit (s := S3x2x512) ![h, 0, 0] S1x2x512.size p2).emb
          (Shape.reshapeEquiv (squeezes_S1x2x512_S2x512).numel_eq (ix2 (⟨j, hj⟩ : Fin 2) (x 2))) := by
  have e := ValueIdx.reshapeEquiv_ix2_1ab (squeezes_S1x2x512_S2x512).numel_eq (⟨j, hj⟩ : Fin 2) (x 2)
  rw [show Shape.reshapeEquiv (squeezes_S1x2x512_S2x512).numel_eq (ix2 (⟨j, hj⟩ : Fin 2) (x 2)) = ix3 (⟨0, Nat.one_pos⟩ : Fin 1) (⟨j, hj⟩ : Fin 2) (x 2) from e]
  funext a
  have h0 : (x 0).val = 0 := Nat.lt_one_iff.mp (x 0).isLt
  have h1 : (x 1).val = 0 := Nat.lt_one_iff.mp (x 1).isLt
  refine Fin.ext ?_
  match a with
  | 0 => show h + 1 * (x 0).val = h + 1 * 0; rw [h0]
  | 1 => show j + 1 * (x 1).val = 0 + 1 * j; rw [h1]; omega
  | 2 => show 0 + 1 * (x 2).val = 0 + 1 * (x 2).val; rfl

theorem row12 (h j : ℕ) (hj : j < 2) (p : ∀ i, (![h, j, 0] : Fin 3 → ℕ) i + S1x1x512.size i ≤ S2x2x512.size i)
    (p2 : ∀ i, (![h, 0, 0] : Fin 3 → ℕ) i + S1x2x512.size i ≤ S2x2x512.size i)
    (x : (Rect.unit (s := S2x2x512) ![h, j, 0] S1x1x512.size p).shape.Idx) :
    (Rect.unit (s := S2x2x512) ![h, j, 0] S1x1x512.size p).emb x
      = (Rect.unit (s := S2x2x512) ![h, 0, 0] S1x2x512.size p2).emb
          (Shape.reshapeEquiv (squeezes_S1x2x512_S2x512).numel_eq (ix2 (⟨j, hj⟩ : Fin 2) (x 2))) := by
  have e := ValueIdx.reshapeEquiv_ix2_1ab (squeezes_S1x2x512_S2x512).numel_eq (⟨j, hj⟩ : Fin 2) (x 2)
  rw [show Shape.reshapeEquiv (squeezes_S1x2x512_S2x512).numel_eq (ix2 (⟨j, hj⟩ : Fin 2) (x 2)) = ix3 (⟨0, Nat.one_pos⟩ : Fin 1) (⟨j, hj⟩ : Fin 2) (x 2) from e]
  funext a
  have h0 : (x 0).val = 0 := Nat.lt_one_iff.mp (x 0).isLt
  have h1 : (x 1).val = 0 := Nat.lt_one_iff.mp (x 1).isLt
  refine Fin.ext ?_
  match a with
  | 0 => show h + 1 * (x 0).val = h + 1 * 0; rw [h0]
  | 1 => show j + 1 * (x 1).val = 0 + 1 * j; rw [h1]; omega
  | 2 => show 0 + 1 * (x 2).val = 0 + 1 * (x 2).val; rfl

/-! ## What the loads from the slots give -/

/-- The two quantised experts of a device whose expert block is `w`, -/
def qs (w : (cc0_stg3_0 : Ref sig .tc).ty.Contents (Elt F)) : Fin 2 → Vec F S256x512 .i8
  | 0 => val w 0
  | 1 => val w 1
/-- as they are loaded from a buffer of several places, and of one; -/
def tile (j : Fin 2) (w : (cc0_stg3_0 : Ref sig .tc).ty.Contents (Elt F)) : Vec F S1x1x256x512 .i8 :=
  shapeCast S1x1x256x512 (qs w j) squeezes_S1x1x256x512_S256x512.numel_eq.symm
def flat (j : Fin 2) (w : (cc0_stg3_0 : Ref sig .tc).ty.Contents (Elt F)) : Vec F S1x256x512 .i8 :=
  shapeCast S1x256x512 (qs w j) squeezes_S1x256x512_S256x512.numel_eq.symm
/-- their scales likewise. -/
def row (j : Fin 2) (w : (cc0_stg3_0 : Ref sig .tc).ty.Contents (Elt F)) : Vec F S1x1x512 .f32 := fun x => rows w (ix2 j (x 2))
def flatRow0 (w : (cc0_stg3_0 : Ref sig .tc).ty.Contents (Elt F)) : Vec F S1x512 .f32 := fun x =>
  rows w ((Rect.unit (s := S2x512) ![0, 0] S1x512.size inb_S2x512_S1x512_0_0).emb x)
def flatRow1 (w : (cc0_stg3_0 : Ref sig .tc).ty.Contents (Elt F)) : Vec F S1x512 .f32 := fun x =>
  rows w ((Rect.unit (s := S2x512) ![1, 0] S1x512.size inb_S2x512_S1x512_1_0).emb x)
/-- The two columns of the routing table. -/
def col0 (i : (cc0_stg2_0 : Ref sig .tc).ty.Contents (Elt F)) : Vec F S512x1 .i32 :=
  ((Memref.whole cc0_stg2_0 : Memref sig .tc .vmem S512x2 .i32).access (Rect.unit (s := S512x2) ![0, 0] S512x1.size inb_S512x2_S512x1_0_0)).read (Elt F) i
def col1 (i : (cc0_stg2_0 : Ref sig .tc).ty.Contents (Elt F)) : Vec F S512x1 .i32 :=
  ((Memref.whole cc0_stg2_0 : Memref sig .tc .vmem S512x2 .i32).access (Rect.unit (s := S512x2) ![0, 1] S512x1.size inb_S512x2_S512x1_0_1)).read (Elt F) i

/-! ## The loads, of a slot that is held at any share -/

section Held
variable (c : Dev nD) {o s r : ℕ}

theorem tileLd (k : Fin 8) (p : Fin 3) (h : (stat o s r (k, p)).isSome = true) {S : Shape} {m : Memref sig .tc .vmem S (elt p)} {R : Rect S}
    {h2 : ∀ a, R.stride a = 1} {hq : R.shape.Squeezes (shp p)} (hsl : slot k p = (m.slice R h2).squeeze (shp p) hq)
    {hl : m.view.LoadsAt R.toLoadRect} {α : Type} {Q : α → sProp 𝕄} {kk : (R.shape.Idx → Elt F (elt p)) → Prog (TpuEff nD τ sig (Elt F) Λ₀ .tc) α} :
    net W c o s r ⊢ iprop((net W c o s r -∗ runs c (kk (shapeCast R.shape (val (W (fwd k.val c)) p) hq.numel_eq.symm)) Q)
      -∗ runs c (.op (.load m R.toLoadRect hl) kk) Q) :=
  load_tile W c k (Option.some_get h).symm hsl

theorem rowLd11 (k : Fin 8) (i j : ℕ) (h : (stat o s r (k, 2)).isSome = true) (hj : j < 2)
    {p : ∀ a, (![i, j, 0] : Fin 3 → ℕ) a + S1x1x512.size a ≤ S3x2x512.size a}
    {p2 : ∀ a, (![i, 0, 0] : Fin 3 → ℕ) a + S1x2x512.size a ≤ S3x2x512.size a} (hsl : slot k 2 = sc11 i p2)
    {hl : A11.view.LoadsAt (Rect.unit (s := S3x2x512) ![i, j, 0] S1x1x512.size p).toLoadRect} {α : Type} {Q : α → sProp 𝕄}
    {kk : Vec F S1x1x512 .f32 → Prog (TpuEff nD τ sig (Elt F) Λ₀ .tc) α} :
    net W c o s r ⊢ iprop((net W c o s r -∗ runs c (kk (row ⟨j, hj⟩ (W (fwd k.val c)))) Q)
      -∗ runs c (.op (.load A11 (Rect.unit (s := S3x2x512) ![i, j, 0] S1x1x512.size p).toLoadRect hl) kk) Q) :=
  load_sq (p := 2) (S := S3x2x512) (m := A11) (R := Rect.unit (s := S3x2x512) ![i, j, 0] S1x1x512.size p)
    (R2 := Rect.unit (s := S3x2x512) ![i, 0, 0] S1x2x512.size p2) (h2 := fun _ => rfl) (hq := squeezes_S1x2x512_S2x512)
    W c k (Option.some_get h).symm hsl (fun x => ix2 (⟨j, hj⟩ : Fin 2) (x 2)) (row11 i j hj p p2) (kk := kk)

theorem rowLd12 (k : Fin 8) (i j : ℕ) (h : (stat o s r (k, 2)).isSome = true) (hj : j < 2)
    {p : ∀ a, (![i, j, 0] : Fin 3 → ℕ) a + S1x1x512.size a ≤ S2x2x512.size a}
    {p2 : ∀ a, (![i, 0, 0] : Fin 3 → ℕ) a + S1x2x512.size a ≤ S2x2x512.size a} (hsl : slot k 2 = sc12 i p2)
    {hl : A12.view.LoadsAt (Rect.unit (s := S2x2x512) ![i, j, 0] S1x1x512.size p).toLoadRect} {α : Type} {Q : α → sProp 𝕄}
    {kk : Vec F S1x1x512 .f32 → Prog (TpuEff nD τ sig (Elt F) Λ₀ .tc) α} :
    net W c o s r ⊢ iprop((net W c o s r -∗ runs c (kk (row ⟨j, hj⟩ (W (fwd k.val c)))) Q)
      -∗ runs c (.op (.load A12 (Rect.unit (s := S2x2x512) ![i, j, 0] S1x1x512.size p).toLoadRect hl) kk) Q) :=
  load_sq (p := 2) (S := S2x2x512) (m := A12) (R := Rect.unit (s := S2x2x512) ![i, j, 0] S1x1x512.size p)
    (R2 := Rect.unit (s := S2x2x512) ![i, 0, 0] S1x2x512.size p2) (h2 := fun _ => rfl) (hq := squeezes_S1x2x512_S2x512)
    W c k (Option.some_get h).symm hsl (fun x => ix2 (⟨j, hj⟩ : Fin 2) (x 2)) (row12 i j hj p p2) (kk := kk)

theorem rowLd (k : Fin 8) (h : (stat o s r (k, 2)).isSome = true) {m : Memref sig .tc .vmem S2x512 .f32} {R : Rect S2x512} (hsl : slot k 2 = m)
    {hl : m.view.LoadsAt R.toLoadRect} {α : Type} {Q : α → sProp 𝕄} {kk : (R.shape.Idx → Elt F .f32) → Prog (TpuEff nD τ sig (Elt F) Λ₀ .tc) α} :
    net W c o s r ⊢ iprop((net W c o s r -∗ runs c (kk fun x => rows (W (fwd k.val c)) (R.emb x)) Q)
      -∗ runs c (.op (.load m R.toLoadRect hl) kk) Q) :=
  load_whole (p := 2) W c k (Option.some_get h).symm hsl

end Held

/-! ## The device's own slots -/

section Own
variable (c : Dev nD)

theorem ownTileLd (p : Fin 3) {S : Shape} {m : Memref sig .tc .vmem S (elt p)} {R : Rect S}
    {h2 : ∀ a, R.stride a = 1} {hq : R.shape.Squeezes (shp p)} (hsl : slot 0 p = (m.slice R h2).squeeze (shp p) hq) (v : (shp p).Idx → Elt F (elt p))
    {hl : m.view.LoadsAt R.toLoadRect} {α : Type} {Q : α → sProp 𝕄} {kk : (R.shape.Idx → Elt F (elt p)) → Prog (TpuEff nD τ sig (Elt F) Λ₀ .tc) α} :
    holds c 0 p v ⊢ iprop((holds c 0 p v -∗ runs c (kk (shapeCast R.shape v hq.numel_eq.symm)) Q) -∗ runs c (.op (.load m R.toLoadRect hl) kk) Q) :=
  load_any c 0 hsl (fun x => Shape.reshapeEquiv hq.numel_eq.symm x) (fun x => by rw [Shape.reshapeEquiv_reshapeEquiv, Shape.reshapeEquiv_self]) v

theorem ownTileSt (p : Fin 3) {S : Shape} {m : Memref sig .tc .vmem S (elt p)} {R : Rect S}
    {h2 : ∀ a, R.stride a = 1} {hq : R.shape.Squeezes (shp p)} (hsl : slot 0 p = (m.slice R h2).squeeze (shp p) hq) (v : (shp p).Idx → Elt F (elt p))
    {w : R.shape.Idx → Elt F (elt p)} {v' : (shp p).Idx → Elt F (elt p)} (hv : v' = shapeCast (shp p) w hq.numel_eq)
    {hx : (m.access R).Stores Finset.univ} {hm : (Finset.univ : Finset R.shape.Idx) = Finset.univ ∨ ∀ a, R.stride a = 1}
    {α : Type} {Q : α → sProp 𝕄} {kk : PUnit → Prog (TpuEff nD τ sig (Elt F) Λ₀ .tc) α} :
    holds c 0 p v ⊢ iprop((holds c 0 p v' -∗ runs c (kk ⟨⟩) Q)
      -∗ runs c (.op (.store m R w Finset.univ hx hm) kk) Q) := by
  subst hv
  exact store_sq c 0 hsl (fun x => Shape.reshapeEquiv hq.numel_eq.symm x) (fun x => by rw [Shape.reshapeEquiv_reshapeEquiv, Shape.reshapeEquiv_self]) v _
    (fun x => by show w (Shape.reshapeEquiv _ (Shape.reshapeEquiv _ x)) = w x; rw [Shape.reshapeEquiv_reshapeEquiv, Shape.reshapeEquiv_self])
    (fun y hy => absurd (by rw [Shape.reshapeEquiv_reshapeEquiv, Shape.reshapeEquiv_self]) (hy (Shape.reshapeEquiv hq.numel_eq y)))

variable {j : ℕ} (hj : j < 2) {p : ∀ a, (![0, j, 0] : Fin 3 → ℕ) a + S1x1x512.size a ≤ S3x2x512.size a}

theorem ownRowLd (v : Vec F S2x512 .f32)
    {hl : A11.view.LoadsAt (Rect.unit (s := S3x2x512) ![0, j, 0] S1x1x512.size p).toLoadRect} {α : Type} {Q : α → sProp (MT nD τ sig Unit (Elt F) ℕ UU ℕ)}
    {kk : Vec F S1x1x512 .f32 → Prog (TpuEff nD τ sig (Elt F) Λ₀ .tc) α} :
    holds c 0 2 v ⊢ iprop((holds c 0 2 v -∗ runs c (kk fun x => v (ix2 (⟨j, hj⟩ : Fin 2) (x 2))) Q)
      -∗ runs c (.op (.load A11 (Rect.unit (s := S3x2x512) ![0, j, 0] S1x1x512.size p).toLoadRect hl) kk) Q) :=
  load_any (p := 2) (S := S3x2x512) (m := A11) (R := Rect.unit (s := S3x2x512) ![0, j, 0] S1x1x512.size p)
    (R2 := Rect.unit (s := S3x2x512) ![0, 0, 0] S1x2x512.size (by decide)) (h2 := fun _ => rfl) (hq := squeezes_S1x2x512_S2x512)
    c 0 rfl (fun x => ix2 (⟨j, hj⟩ : Fin 2) (x 2)) (row11 0 j hj p (by decide)) v (kk := kk)

theorem ownRowSt (v v' : Vec F S2x512 .f32) {w : Vec F S1x1x512 .f32} (hw : ∀ x : Fin 512, v' (ix2 (⟨j, hj⟩ : Fin 2) x) = w (ix3 0 0 x))
    (hv : ∀ y : S2x512.Idx, (y 0).val ≠ j → v' y = v y)
    {hx : (A11.access (Rect.unit (s := S3x2x512) ![0, j, 0] S1x1x512.size p)).Stores Finset.univ}
    {hm : (Finset.univ : Finset (Rect.unit (s := S3x2x512) ![0, j, 0] S1x1x512.size p).shape.Idx) = Finset.univ
      ∨ ∀ a, (Rect.unit (s := S3x2x512) ![0, j, 0] S1x1x512.size p).stride a = 1}
    {α : Type} {Q : α → sProp (MT nD τ sig Unit (Elt F) ℕ UU ℕ)} {kk : PUnit → Prog (TpuEff nD τ sig (Elt F) Λ₀ .tc) α} :
    holds c 0 2 v ⊢ iprop((holds c 0 2 v' -∗ runs c (kk ⟨⟩) Q)
      -∗ runs c (.op (.store A11 (Rect.unit (s := S3x2x512) ![0, j, 0] S1x1x512.size p) w Finset.univ hx hm) kk) Q) :=
  store_sq (p := 2) (S := S3x2x512) (m := A11) (R := Rect.unit (s := S3x2x512) ![0, j, 0] S1x1x512.size p)
    (R2 := Rect.unit (s := S3x2x512) ![0, 0, 0] S1x2x512.size (by decide)) (h2 := fun _ => rfl) (hq := squeezes_S1x2x512_S2x512)
    c 0 rfl (fun x => ix2 (⟨j, hj⟩ : Fin 2) (x 2)) (row11 0 j hj p (by decide)) v v'
    (fun x => (hw (x 2)).trans (congrArg w (funext fun a => by
      match a with
      | 0 => exact Fin.ext (Nat.lt_one_iff.mp (x 0).isLt).symm
      | 1 => exact Fin.ext (Nat.lt_one_iff.mp (x 1).isLt).symm
      | 2 => rfl)))
    (fun (y : S2x512.Idx) hy => hv y fun h => hy (ix3 0 0 (y 1)) (funext fun (a : Fin 2) => by
      match a with
      | 0 => exact Fin.ext h
      | 1 => rfl))

end Own

/-! ## The loads and stores of the staging buffers and the accumulator, by name -/

section Named
variable (c : Dev nD) {a : (cc0_scratch0 : Ref sig .tc).ty.Contents (Elt F)} {o : (cc0_stg4_0 : Ref sig .tc).ty.Contents (Elt F)}

/-- One step on the buffers, the rest of the state kept. -/
theorem stepL {C N M M' R X Y : sProp 𝕄} (h : M ⊢ iprop((M' -∗ X) -∗ Y)) (n : iprop(C ∗ N ∗ M' ∗ R) ⊢ X) : iprop(C ∗ N ∗ M ∗ R) ⊢ Y := by
  iintro ⟨HC, HN, HM, HR⟩
  iapply h $$ [HM]
  · iexact HM
  iintro HM
  iapply n
  isplitl [HC]; · iexact HC
  isplitl [HN]; · iexact HN
  isplitl [HM] <;> iassumption

/-- A buffer is taken out, used and put back. -/
theorem within {M M' P P' X Y : sProp 𝕄} (g : M ⊢ iprop(P ∗ (P' -∗ M'))) (h : P ⊢ iprop((P' -∗ X) -∗ Y)) : M ⊢ iprop((M' -∗ X) -∗ Y) := by
  iintro HM HX
  ihave HM := g $$ HM
  icases HM with ⟨HP, HM⟩
  iapply h $$ [HP]
  · iexact HP
  iintro HP
  iapply HX; iapply HM; iexact HP

theorem ld_x {q : ∀ i, (![0, 0] : Fin 2 → ℕ) i + S512x256.size i ≤ S512x256.size i}
    {hl : (Memref.whole cc0_stg0_0 : Memref sig .tc .vmem S512x256 .bf16).view.LoadsAt (Rect.unit (s := S512x256) ![0, 0] S512x256.size q).toLoadRect}
    {α : Type} {Q : α → sProp 𝕄} {kk : Vec F S512x256 .bf16 → Prog (TpuEff nD τ sig (Elt F) Λ₀ .tc) α} :
    mem X G I W c a o ⊢ iprop((mem X G I W c a o -∗ runs c (kk (X c)) Q)
      -∗ runs c (.op (.load (Memref.whole cc0_stg0_0 : Memref sig .tc .vmem S512x256 .bf16) (Rect.unit (s := S512x256) ![0, 0] S512x256.size q).toLoadRect hl) kk) Q) :=
  within (mem_x X G I W c) (load_buf (m := (Memref.whole cc0_stg0_0 : Memref sig .tc .vmem S512x256 .bf16)) (R := Rect.unit (s := S512x256) ![0, 0] S512x256.size q) c (X c) (v := X c) (Memref.read_access_unit_zero (Elt F) cc0_stg0_0 zero2 _ _) (kk := kk))

theorem ld_g {q : ∀ i, (![0, 0] : Fin 2 → ℕ) i + S256x16.size i ≤ S256x16.size i}
    {hl : (Memref.whole cc0_stg1_0 : Memref sig .tc .vmem S256x16 .bf16).view.LoadsAt (Rect.unit (s := S256x16) ![0, 0] S256x16.size q).toLoadRect}
    {α : Type} {Q : α → sProp 𝕄} {kk : Vec F S256x16 .bf16 → Prog (TpuEff nD τ sig (Elt F) Λ₀ .tc) α} :
    mem X G I W c a o ⊢ iprop((mem X G I W c a o -∗ runs c (kk (G c)) Q)
      -∗ runs c (.op (.load (Memref.whole cc0_stg1_0 : Memref sig .tc .vmem S256x16 .bf16) (Rect.unit (s := S256x16) ![0, 0] S256x16.size q).toLoadRect hl) kk) Q) :=
  within (mem_g X G I W c) (load_buf (m := (Memref.whole cc0_stg1_0 : Memref sig .tc .vmem S256x16 .bf16)) (R := Rect.unit (s := S256x16) ![0, 0] S256x16.size q) c (G c) (v := G c) (Memref.read_access_unit_zero (Elt F) cc0_stg1_0 zero2 _ _) (kk := kk))

theorem ld_i0 {q : ∀ i, (![0, 0] : Fin 2 → ℕ) i + S512x1.size i ≤ S512x2.size i}
    {hl : (Memref.whole cc0_stg2_0 : Memref sig .tc .vmem S512x2 .i32).view.LoadsAt (Rect.unit (s := S512x2) ![0, 0] S512x1.size q).toLoadRect}
    {α : Type} {Q : α → sProp 𝕄} {kk : Vec F S512x1 .i32 → Prog (TpuEff nD τ sig (Elt F) Λ₀ .tc) α} :
    mem X G I W c a o ⊢ iprop((mem X G I W c a o -∗ runs c (kk (col0 (I c))) Q)
      -∗ runs c (.op (.load (Memref.whole cc0_stg2_0 : Memref sig .tc .vmem S512x2 .i32) (Rect.unit (s := S512x2) ![0, 0] S512x1.size q).toLoadRect hl) kk) Q) :=
  within (mem_i X G I W c) (load_buf (m := (Memref.whole cc0_stg2_0 : Memref sig .tc .vmem S512x2 .i32)) (R := Rect.unit (s := S512x2) ![0, 0] S512x1.size q) c (I c) (v := col0 (I c)) (rfl) (kk := kk))

theorem ld_i1 {q : ∀ i, (![0, 1] : Fin 2 → ℕ) i + S512x1.size i ≤ S512x2.size i}
    {hl : (Memref.whole cc0_stg2_0 : Memref sig .tc .vmem S512x2 .i32).view.LoadsAt (Rect.unit (s := S512x2) ![0, 1] S512x1.size q).toLoadRect}
    {α : Type} {Q : α → sProp 𝕄} {kk : Vec F S512x1 .i32 → Prog (TpuEff nD τ sig (Elt F) Λ₀ .tc) α} :
    mem X G I W c a o ⊢ iprop((mem X G I W c a o -∗ runs c (kk (col1 (I c))) Q)
      -∗ runs c (.op (.load (Memref.whole cc0_stg2_0 : Memref sig .tc .vmem S512x2 .i32) (Rect.unit (s := S512x2) ![0, 1] S512x1.size q).toLoadRect hl) kk) Q) :=
  within (mem_i X G I W c) (load_buf (m := (Memref.whole cc0_stg2_0 : Memref sig .tc .vmem S512x2 .i32)) (R := Rect.unit (s := S512x2) ![0, 1] S512x1.size q) c (I c) (v := col1 (I c)) (rfl) (kk := kk))

theorem ld_w0 {q : ∀ i, (![0, 0, 0] : Fin 3 → ℕ) i + S1x256x512.size i ≤ S2x256x512.size i}
    {hl : (Memref.whole cc0_stg3_0 : Memref sig .tc .vmem S2x256x512 .bf16).view.LoadsAt (Rect.unit (s := S2x256x512) ![0, 0, 0] S1x256x512.size q).toLoadRect}
    {α : Type} {Q : α → sProp 𝕄} {kk : Vec F S1x256x512 .bf16 → Prog (TpuEff nD τ sig (Elt F) Λ₀ .tc) α} :
    mem X G I W c a o ⊢ iprop((mem X G I W c a o -∗ runs c (kk (exp0 (W c))) Q)
      -∗ runs c (.op (.load (Memref.whole cc0_stg3_0 : Memref sig .tc .vmem S2x256x512 .bf16) (Rect.unit (s := S2x256x512) ![0, 0, 0] S1x256x512.size q).toLoadRect hl) kk) Q) :=
  within (mem_w X G I W c) (load_buf (m := (Memref.whole cc0_stg3_0 : Memref sig .tc .vmem S2x256x512 .bf16)) (R := Rect.unit (s := S2x256x512) ![0, 0, 0] S1x256x512.size q) c (W c) (v := exp0 (W c)) (rfl) (kk := kk))

theorem ld_w1 {q : ∀ i, (![1, 0, 0] : Fin 3 → ℕ) i + S1x256x512.size i ≤ S2x256x512.size i}
    {hl : (Memref.whole cc0_stg3_0 : Memref sig .tc .vmem S2x256x512 .bf16).view.LoadsAt (Rect.unit (s := S2x256x512) ![1, 0, 0] S1x256x512.size q).toLoadRect}
    {α : Type} {Q : α → sProp 𝕄} {kk : Vec F S1x256x512 .bf16 → Prog (TpuEff nD τ sig (Elt F) Λ₀ .tc) α} :
    mem X G I W c a o ⊢ iprop((mem X G I W c a o -∗ runs c (kk (exp1 (W c))) Q)
      -∗ runs c (.op (.load (Memref.whole cc0_stg3_0 : Memref sig .tc .vmem S2x256x512 .bf16) (Rect.unit (s := S2x256x512) ![1, 0, 0] S1x256x512.size q).toLoadRect hl) kk) Q) :=
  within (mem_w X G I W c) (load_buf (m := (Memref.whole cc0_stg3_0 : Memref sig .tc .vmem S2x256x512 .bf16)) (R := Rect.unit (s := S2x256x512) ![1, 0, 0] S1x256x512.size q) c (W c) (v := exp1 (W c)) (rfl) (kk := kk))

theorem ld_a {q : ∀ i, (![0, 0] : Fin 2 → ℕ) i + S512x512.size i ≤ S512x512.size i}
    {hl : (Memref.whole cc0_scratch0 : Memref sig .tc .vmem S512x512 .f32).view.LoadsAt (Rect.unit (s := S512x512) ![0, 0] S512x512.size q).toLoadRect}
    {α : Type} {Q : α → sProp 𝕄} {kk : Vec F S512x512 .f32 → Prog (TpuEff nD τ sig (Elt F) Λ₀ .tc) α} :
    mem X G I W c a o ⊢ iprop((mem X G I W c a o -∗ runs c (kk (a)) Q)
      -∗ runs c (.op (.load (Memref.whole cc0_scratch0 : Memref sig .tc .vmem S512x512 .f32) (Rect.unit (s := S512x512) ![0, 0] S512x512.size q).toLoadRect hl) kk) Q) :=
  within (mem_a X G I W c a) (load_buf (m := (Memref.whole cc0_scratch0 : Memref sig .tc .vmem S512x512 .f32)) (R := Rect.unit (s := S512x512) ![0, 0] S512x512.size q) c (a) (v := a) (Memref.read_access_unit_zero (Elt F) cc0_scratch0 zero2 _ _) (kk := kk))

theorem ld_o {q : ∀ i, (![0, 0] : Fin 2 → ℕ) i + S512x512.size i ≤ S512x512.size i}
    {hl : (Memref.whole cc0_stg4_0 : Memref sig .tc .vmem S512x512 .bf16).view.LoadsAt (Rect.unit (s := S512x512) ![0, 0] S512x512.size q).toLoadRect}
    {α : Type} {Q : α → sProp 𝕄} {kk : Vec F S512x512 .bf16 → Prog (TpuEff nD τ sig (Elt F) Λ₀ .tc) α} :
    mem X G I W c a o ⊢ iprop((mem X G I W c a o -∗ runs c (kk (o)) Q)
      -∗ runs c (.op (.load (Memref.whole cc0_stg4_0 : Memref sig .tc .vmem S512x512 .bf16) (Rect.unit (s := S512x512) ![0, 0] S512x512.size q).toLoadRect hl) kk) Q) :=
  within (mem_o X G I W c o) (load_buf (m := (Memref.whole cc0_stg4_0 : Memref sig .tc .vmem S512x512 .bf16)) (R := Rect.unit (s := S512x512) ![0, 0] S512x512.size q) c (o) (v := o) (Memref.read_access_unit_zero (Elt F) cc0_stg4_0 zero2 _ _) (kk := kk))

theorem st_a {q : ∀ i, (![0, 0] : Fin 2 → ℕ) i + S512x512.size i ≤ S512x512.size i} {w : Vec F S512x512 .f32}
    {hx : ((Memref.whole cc0_scratch0 : Memref sig .tc .vmem S512x512 .f32).access (Rect.unit (s := S512x512) ![0, 0] S512x512.size q)).Stores Finset.univ}
    {hm : (Finset.univ : Finset (Rect.unit (s := S512x512) ![0, 0] S512x512.size q).shape.Idx) = Finset.univ ∨ ∀ a, (Rect.unit (s := S512x512) ![0, 0] S512x512.size q).stride a = 1}
    {α : Type} {Q : α → sProp 𝕄} {kk : PUnit → Prog (TpuEff nD τ sig (Elt F) Λ₀ .tc) α} :
    mem X G I W c a o ⊢ iprop((mem X G I W c w o -∗ runs c (kk ⟨⟩) Q)
      -∗ runs c (.op (.store (Memref.whole cc0_scratch0 : Memref sig .tc .vmem S512x512 .f32) (Rect.unit (s := S512x512) ![0, 0] S512x512.size q) w Finset.univ hx hm) kk) Q) :=
  within (mem_a X G I W c w) (store_buf (m := (Memref.whole cc0_scratch0 : Memref sig .tc .vmem S512x512 .f32)) (R := Rect.unit (s := S512x512) ![0, 0] S512x512.size q) c a (f' := w)
    (Memref.write_access_unit_zero_univ (Elt F) cc0_scratch0 zero2 _ _ _) (kk := kk))

theorem st_o {q : ∀ i, (![0, 0] : Fin 2 → ℕ) i + S512x512.size i ≤ S512x512.size i} {w : Vec F S512x512 .bf16}
    {hx : ((Memref.whole cc0_stg4_0 : Memref sig .tc .vmem S512x512 .bf16).access (Rect.unit (s := S512x512) ![0, 0] S512x512.size q)).Stores Finset.univ}
    {hm : (Finset.univ : Finset (Rect.unit (s := S512x512) ![0, 0] S512x512.size q).shape.Idx) = Finset.univ ∨ ∀ a, (Rect.unit (s := S512x512) ![0, 0] S512x512.size q).stride a = 1}
    {α : Type} {Q : α → sProp 𝕄} {kk : PUnit → Prog (TpuEff nD τ sig (Elt F) Λ₀ .tc) α} :
    mem X G I W c a o ⊢ iprop((mem X G I W c a w -∗ runs c (kk ⟨⟩) Q)
      -∗ runs c (.op (.store (Memref.whole cc0_stg4_0 : Memref sig .tc .vmem S512x512 .bf16) (Rect.unit (s := S512x512) ![0, 0] S512x512.size q) w Finset.univ hx hm) kk) Q) :=
  within (mem_o X G I W c w) (store_buf (m := (Memref.whole cc0_stg4_0 : Memref sig .tc .vmem S512x512 .bf16)) (R := Rect.unit (s := S512x512) ![0, 0] S512x512.size q) c o (f' := w)
    (Memref.write_access_unit_zero_univ (Elt F) cc0_stg4_0 zero2 _ _ _) (kk := kk))

end Named

end Cert.Moe

end
-- ==== Proof.Parts.lean ====
/-
# `Parts`: the parts of the body, one after the other

Each part takes the device from one `net c o s r` to the next.
-/
module

public import proofs.«01_k».proof.Proof.Frames

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → (cc0_stg0_0 : Ref sig .tc).ty.Contents (Elt F)) (G : Dev nD → (cc0_stg1_0 : Ref sig .tc).ty.Contents (Elt F))
  (I : Dev nD → (cc0_stg2_0 : Ref sig .tc).ty.Contents (Elt F)) (W : Dev nD → (cc0_stg3_0 : Ref sig .tc).ty.Contents (Elt F))
variable (K : Dev nD × Cel → ℕ)

section Part

variable (c : Dev nD) {α : Type} {a : (cc0_scratch0 : Ref sig .tc).ty.Contents (Elt F)} {o : (cc0_stg4_0 : Ref sig .tc).ty.Contents (Elt F)}

/-- The words the body works out of the device's number. -/
def word2 : BitVec 32 := Scalar.remsi (Scalar.divsi (Dev.word c) 1#32) 8#32
def word5 : BitVec 32 := Scalar.remsi (Scalar.subi (Scalar.addi (word2 c) 8#32) 1#32) 8#32
def word7 : BitVec 32 := Scalar.remsi (Scalar.addi (word2 c) 1#32) 8#32
def word9 : BitVec 32 := Scalar.remsi (Scalar.addi (word2 c) 4#32) 8#32
def word11 : BitVec 32 := Scalar.remsi (Scalar.addi (word2 c) 3#32) 8#32
def word14 : BitVec 32 := Scalar.remsi (Scalar.subi (Scalar.addi (word2 c) 8#32) 3#32) 8#32

/-- A device's state: the exchange, the buffers, the rest. -/
abbrev at_ (os s r : ℕ) (a : (cc0_scratch0 : Ref sig .tc).ty.Contents (Elt F)) (o : (cc0_stg4_0 : Ref sig .tc).ty.Contents (Elt F)) (R : sProp 𝕄) : sProp 𝕄 :=
  iprop(ctx W K ∗ net W c os s r ∗ mem X G I W c a o ∗ R)

theorem part1 {Q : α → sProp 𝕄} {R : sProp 𝕄} {kk : _ → Prog (TpuEff nD τ sig (Elt F) Λ₀ .tc) α}
    (n : iprop(ctx W K ∗ hail c 4 ∗ R) ⊢ runs c (kk ⟨c, word2 c, word5 c, word7 c, word9 c, word11 c, word14 c, SemArray.scalar (sig.barrier 0 rfl)⟩) Q) :
    iprop(ctx W K ∗ hail c 0 ∗ R) ⊢ runs c (at0 (k0_part1 (F := F)) >>= kk) Q := by
  rw [k0_part1_eq_skeleton]
  unfold k0_part1_skel at0
  simp only [semSignalWord, Prog.lift, Prog.bind_op, Prog.bind_ret, Prog.pure_eq_ret, Prog.bind_assoc, wp_deviceId, runs]
  refine step (signal W K c 0 (i := 0) rfl (hail1 c)) ?_
  refine step (signal W K c 1 (i := 1) rfl (hail2 c)) ?_
  refine step (signal W K c 2 (i := 2) rfl (hail3 c)) ?_
  refine step (signal W K c 4 (i := 3) rfl (hail4 c)) ?_
  exact n

/-- What the device has besides when it meets its neighbours: its barrier cell, its transfers' tokens, its receive cells, its own slots. -/
def toMeet (c : Dev nD) : sProp 𝕄 :=
  iprop((atPos EX (barC c) 0 ∅ 0 ∗ cred (tallyAt (barC c) () 5)) ∗ bigSepL sends (toks c) ∗ bigSepL recvs (toRecv c)
    ∗ anyAt c 0 0 ∗ anyAt c 0 1 ∗ anyAt c 0 2)

theorem meetStep {Q : α → sProp 𝕄} {R : sProp 𝕄} {k : PUnit → Prog (TpuEff nD τ sig (Elt F) Λ₀ .tc) α}
    (n : ∀ (v0 v1 : Vec F S256x512 .i8) (v2 : Vec F S2x512 .f32),
      at_ X G I W K c 0 0 0 a o iprop(holds c 0 0 v0 ∗ holds c 0 1 v1 ∗ holds c 0 2 v2 ∗ semVal (barC c) 0 ∗ R) ⊢ runs c (k ⟨⟩) Q) :
    iprop(ctx W K ∗ hail c 5 ∗ toMeet c ∗ mem X G I W c a o ∗ R) ⊢ runs c (.op (.semWait barS 5) k) Q := by
  unfold toMeet
  iintro ⟨#Hc, Hh, ⟨Hb, HT, HR, H0, H1, H2⟩, Hm, Hr⟩
  ihave H0 := (anyAt_holds c 0 0) $$ H0
  ihave H1 := (anyAt_holds c 0 1) $$ H1
  ihave H2 := (anyAt_holds c 0 2) $$ H2
  icases H0 with ⟨%v0, H0⟩
  icases H1 with ⟨%v1, H1⟩
  icases H2 with ⟨%v2, H2⟩
  iapply (meet W K c) $$ [Hh Hb HT HR]
  · isplitr; · iexact Hc
    isplitl [Hh]; · iexact Hh
    isplitl [Hb]; · iexact Hb
    isplitl [HT] <;> iassumption
  iintro ⟨Hn, Hz⟩
  iapply (n v0 v1 v2)
  isplitr; · iexact Hc
  isplitl [Hn]; · iexact Hn
  isplitl [Hm]; · iexact Hm
  isplitl [H0]; · iexact H0
  isplitl [H1]; · iexact H1
  isplitl [H2]; · iexact H2
  isplitl [Hz] <;> iassumption

/-- One step on a slot of the device's own, the rest of the state kept. -/
theorem stepOwn {C N M H H' R X Y : sProp 𝕄} (h : H ⊢ iprop((H' -∗ X) -∗ Y)) (n : iprop(C ∗ N ∗ M ∗ H' ∗ R) ⊢ X) : iprop(C ∗ N ∗ M ∗ H ∗ R) ⊢ Y := by
  iintro ⟨HC, HN, HM, HP, HR⟩
  iapply h $$ [HP]
  · iexact HP
  iintro HP
  iapply n
  isplitl [HC]; · iexact HC
  isplitl [HN]; · iexact HN
  isplitl [HM]; · iexact HM
  isplitl [HP] <;> iassumption
theorem stepOwn2 {C N M H0 H H' R X Y : sProp 𝕄} (h : H ⊢ iprop((H' -∗ X) -∗ Y)) (n : iprop(C ∗ N ∗ M ∗ H0 ∗ H' ∗ R) ⊢ X) : iprop(C ∗ N ∗ M ∗ H0 ∗ H ∗ R) ⊢ Y := by
  iintro ⟨HC, HN, HM, H0, HP, HR⟩
  iapply h $$ [HP]
  · iexact HP
  iintro HP
  iapply n
  isplitl [HC]; · iexact HC
  isplitl [HN]; · iexact HN
  isplitl [HM]; · iexact HM
  isplitl [H0]; · iexact H0
  isplitl [HP] <;> iassumption
/-- A slot stored joins the exchange. -/
theorem joinOwn {os s r : ℕ} (p : Fin 3) (h₀ : stat os s r (0, p) = none)
    (h : ∀ x, stat (os + 1) s r x = if x = (0, p) then some 0 else stat os s r x) {v : (shp p).Idx → Elt F (elt p)} (hv : v = val (W c) p)
    {C M R Y : sProp 𝕄} (n : iprop(C ∗ net W c (os + 1) s r ∗ M ∗ R) ⊢ Y) : iprop(C ∗ net W c os s r ∗ M ∗ holds c 0 p v ∗ R) ⊢ Y := by
  have e : holds c 0 p v ⊢ has W c 0 p fullShare := by
    subst hv; unfold holds has; rw [fwd_zero]
  iintro ⟨HC, HN, HM, HP, HR⟩
  ihave HP := e $$ HP
  iapply n
  isplitl [HC]; · iexact HC
  isplitl [HN HP]
  · iapply (net_own W c p h₀ h); isplitl [HN] <;> iassumption
  isplitl [HM] <;> iassumption

/-- The two rows of scales, row by row. -/
theorem half_row (w : (cc0_stg3_0 : Ref sig .tc).ty.Contents (Elt F)) (v : Vec F S2x512 .f32) (x : Fin 512) :
    half w v (ix2 (⟨0, by decide⟩ : Fin 2) x) = k0_pay4 (exp0 w) (ix3 0 0 x) := if_pos rfl
theorem half_keep (w : (cc0_stg3_0 : Ref sig .tc).ty.Contents (Elt F)) (v : Vec F S2x512 .f32) (y : S2x512.Idx) (h : (y 0).val ≠ 0) :
    half w v y = v y := if_neg h
theorem rows_row (w : (cc0_stg3_0 : Ref sig .tc).ty.Contents (Elt F)) (x : Fin 512) :
    rows w (ix2 (⟨1, by decide⟩ : Fin 2) x) = k0_pay9 (k0_pay6 (exp1 w)) (ix3 0 0 x) := if_neg Nat.one_ne_zero
theorem rows_keep (w : (cc0_stg3_0 : Ref sig .tc).ty.Contents (Elt F)) (v : Vec F S2x512 .f32) (y : S2x512.Idx) (h : (y 0).val ≠ 1) :
    rows w y = half w v y := by
  have h : (y 0).val = 0 := by have := (y 0).isLt; change (y 0).val < 2 at this; omega
  unfold half rows; rw [if_pos h, if_pos h]

theorem part2 (v7 : BitVec 32) {Q : α → sProp 𝕄} {R : sProp 𝕄} {kk : _ → Prog (TpuEff nD τ sig (Elt F) Λ₀ .tc) α}
    (n : ∀ (v1 : Vec F S256x512 .i8) (v2 : Vec F S2x512 .f32),
      at_ X G I W K c 1 0 0 a o iprop(holds c 0 1 v1 ∗ holds c 0 2 (half (W c) v2) ∗ semVal (barC c) 0 ∗ R) ⊢ runs c (kk ⟨⟩) Q) :
    iprop(ctx W K ∗ hail c 4 ∗ toMeet c ∗ mem X G I W c a o ∗ R)
      ⊢ runs c (at0 (k0_part2 (F := F)) c v7 (SemArray.scalar (sig.barrier 0 rfl)) >>= kk) Q := by
  rw [k0_part2_eq_skeleton]
  unfold k0_part2_skel at0
  simp only [semSignalWord, semWaitWord, Prog.lift, Prog.bind_op, Prog.bind_ret, Prog.pure_eq_ret, Prog.bind_assoc, runs]
  refine step (signal W K c 3 (i := 4) rfl (hail5 c)) ?_
  refine meetStep X G I W K c fun v0 v1 v2 => ?_
  refine stepL (ld_w0 X G I W c) ?_
  refine stepOwn (ownTileLd c 0 (hq := squeezes_S1x1x256x512_S256x512) rfl v0) ?_
  refine stepOwn (ownTileSt c 0 (hq := squeezes_S1x1x256x512_S256x512) rfl v0 (v' := val (W c) 0) rfl) ?_
  refine joinOwn W c 0 (by decide) (by decide) rfl ?_
  refine stepOwn2 (ownRowLd c (by decide) v2) ?_
  refine stepOwn2 (ownRowSt c (by decide) v2 (half (W c) v2) (half_row (W c) v2) (half_keep (W c) v2)) ?_
  exact n v1 v2

theorem part3 (v5 v9 : BitVec 32) {Q : α → sProp 𝕄} {R : sProp 𝕄} {kk : _ → Prog (TpuEff nD τ sig (Elt F) Λ₀ .tc) α}
    (n : at_ X G I W K c 1 3 0 a o R ⊢ runs c (kk ⟨⟩) Q) : at_ X G I W K c 1 0 0 a o R ⊢ runs c (at0 (k0_part3 (F := F)) c v5 v9 >>= kk) Q := by
  rw [k0_part3_eq_skeleton]
  unfold k0_part3_skel at0
  simp only [Prog.lift, Prog.bind_op, Prog.bind_ret, Prog.pure_eq_ret, Prog.bind_assoc]
  refine step (send W K c (0, 0) (o := 1) (s := 0) (r := 0) rfl (by decide) (by decide) (to6 c) rfl rfl rfl rfl) ?_
  refine step (send W K c (1, 0) (o := 1) (s := 1) (r := 0) rfl (by decide) (by decide) (to7 c) rfl rfl rfl rfl) ?_
  refine step (send W K c (2, 0) (o := 1) (s := 2) (r := 0) rfl (by decide) (by decide) (to8 c) rfl rfl rfl rfl) ?_
  exact n

theorem part4 (v11 v14 : BitVec 32) {Q : α → sProp 𝕄} {R : sProp 𝕄} {kk : _ → Prog (TpuEff nD τ sig (Elt F) Λ₀ .tc) α}
    (n : at_ X G I W K c 1 5 0 a o R ⊢ runs c (kk ⟨k0_pay6 (exp1 (W c)), k0_pay7 (exp1 (W c))⟩) Q) :
    at_ X G I W K c 1 3 0 a o R ⊢ runs c (at0 (k0_part4 (F := F)) c v11 v14 >>= kk) Q := by
  rw [k0_part4_eq_skeleton]
  unfold k0_part4_skel at0
  simp only [Prog.lift, Prog.bind_op, Prog.bind_ret, Prog.pure_eq_ret, Prog.bind_assoc]
  refine step (send W K c (3, 0) (o := 1) (s := 3) (r := 0) rfl (by decide) (by decide) (to9 c) rfl rfl rfl rfl) ?_
  refine step (send W K c (4, 0) (o := 1) (s := 4) (r := 0) rfl (by decide) (by decide) (to10 c) rfl rfl rfl rfl) ?_
  refine stepL (ld_w1 X G I W c) ?_
  exact n

theorem part5 (v5 v7 : BitVec 32) {Q : α → sProp 𝕄} {R : sProp 𝕄} {v1 : Vec F S256x512 .i8} {v2 : Vec F S2x512 .f32} {kk : _ → Prog (TpuEff nD τ sig (Elt F) Λ₀ .tc) α}
    (n : at_ X G I W K c 3 6 0 a o R ⊢ runs c (kk ⟨⟩) Q) :
    at_ X G I W K c 1 5 0 a o iprop(holds c 0 1 v1 ∗ holds c 0 2 (half (W c) v2) ∗ R)
      ⊢ runs c (at0 (k0_part5 (F := F)) c v5 v7 (k0_pay6 (exp1 (W c))) (k0_pay7 (exp1 (W c))) >>= kk) Q := by
  rw [k0_part5_eq_skeleton]
  unfold k0_part5_skel at0
  simp only [Prog.lift, Prog.bind_op, Prog.bind_ret, Prog.pure_eq_ret, Prog.bind_assoc]
  refine stepOwn (ownTileLd c 1 (hq := squeezes_S1x1x256x512_S256x512) rfl v1) ?_
  refine stepOwn (ownTileSt c 1 (hq := squeezes_S1x1x256x512_S256x512) rfl v1 (v' := val (W c) 1) rfl) ?_
  refine joinOwn W c 1 (by decide) (by decide) rfl ?_
  refine stepOwn (ownRowLd c (by decide) _) ?_
  refine stepOwn (ownRowSt c (by decide) _ (rows (W c)) (rows_row (W c)) (rows_keep (W c) v2)) ?_
  refine joinOwn W c 2 (by decide) (by decide) rfl ?_
  refine step (send W K c (0, 1) (o := 3) (s := 5) (r := 0) rfl (by decide) (by decide) (to11 c) rfl rfl rfl rfl) ?_
  exact n

end Part

end Cert.Moe

end
-- ==== Proof.Parts2.lean ====
/-
# `Parts2`: the remaining parts of the body, up to the last accumulation

Each part takes the device from one `net c o s r` to the next.
-/
module

public import proofs.«01_k».proof.Proof.Parts

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → (cc0_stg0_0 : Ref sig .tc).ty.Contents (Elt F)) (G : Dev nD → (cc0_stg1_0 : Ref sig .tc).ty.Contents (Elt F))
  (I : Dev nD → (cc0_stg2_0 : Ref sig .tc).ty.Contents (Elt F)) (W : Dev nD → (cc0_stg3_0 : Ref sig .tc).ty.Contents (Elt F))
variable (K : Dev nD × Cel → ℕ)

section Part

variable (c : Dev nD) {α : Type} {a : (cc0_scratch0 : Ref sig .tc).ty.Contents (Elt F)} {o : (cc0_stg4_0 : Ref sig .tc).ty.Contents (Elt F)}

/-- The expert numbers along a row of gates. -/
abbrev cols : IVec S512x16 32 := iota .tc S512x16 32 [1] iota_S512x16_d1_w32

theorem part6 (v9 v11 : BitVec 32) {Q : α → sProp 𝕄} {R : sProp 𝕄} {kk : _ → Prog (TpuEff nD τ sig (Elt F) Λ₀ .tc) α}
    (n : at_ X G I W K c 3 9 0 a o R ⊢ runs c (kk ⟨⟩) Q) : at_ X G I W K c 3 6 0 a o R ⊢ runs c (at0 (k0_part6 (F := F)) c v9 v11 >>= kk) Q := by
  rw [k0_part6_eq_skeleton]
  unfold k0_part6_skel at0
  simp only [Prog.lift, Prog.bind_op, Prog.bind_ret, Prog.pure_eq_ret, Prog.bind_assoc]
  refine step (send W K c (1, 1) (o := 3) (s := 6) (r := 0) rfl (by decide) (by decide) (to12 c) rfl rfl rfl rfl) ?_
  refine step (send W K c (2, 1) (o := 3) (s := 7) (r := 0) rfl (by decide) (by decide) (to13 c) rfl rfl rfl rfl) ?_
  refine step (send W K c (3, 1) (o := 3) (s := 8) (r := 0) rfl (by decide) (by decide) (to14 c) rfl rfl rfl rfl) ?_
  exact n

theorem part7 (v5 v7 v14 : BitVec 32) {Q : α → sProp 𝕄} {R : sProp 𝕄} {kk : _ → Prog (TpuEff nD τ sig (Elt F) Λ₀ .tc) α}
    (n : at_ X G I W K c 3 12 0 a o R ⊢ runs c (kk ⟨⟩) Q) : at_ X G I W K c 3 9 0 a o R ⊢ runs c (at0 (k0_part7 (F := F)) c v5 v7 v14 >>= kk) Q := by
  rw [k0_part7_eq_skeleton]
  unfold k0_part7_skel at0
  simp only [Prog.lift, Prog.bind_op, Prog.bind_ret, Prog.pure_eq_ret, Prog.bind_assoc]
  refine step (send W K c (4, 1) (o := 3) (s := 9) (r := 0) rfl (by decide) (by decide) (to15 c) rfl rfl rfl rfl) ?_
  refine step (send W K c (0, 2) (o := 3) (s := 10) (r := 0) rfl (by decide) (by decide) (to16 c) rfl rfl rfl rfl) ?_
  refine step (send W K c (1, 2) (o := 3) (s := 11) (r := 0) rfl (by decide) (by decide) (to17 c) rfl rfl rfl rfl) ?_
  exact n

theorem part8 (v9 v11 v14 : BitVec 32) {Q : α → sProp 𝕄} {R : sProp 𝕄} {kk : _ → Prog (TpuEff nD τ sig (Elt F) Λ₀ .tc) α}
    (n : at_ X G I W K c 3 15 0 a o R ⊢ runs c (kk ⟨k0_pay10 (X c), k0_pay11 (X c) (G c), k0_pay12 (X c) (G c)⟩) Q) :
    at_ X G I W K c 3 12 0 a o R ⊢ runs c (at0 (k0_part8 (F := F)) c v9 v11 v14 >>= kk) Q := by
  rw [k0_part8_eq_skeleton]
  unfold k0_part8_skel at0
  simp only [Prog.lift, Prog.bind_op, Prog.bind_ret, Prog.pure_eq_ret, Prog.bind_assoc]
  refine step (send W K c (2, 2) (o := 3) (s := 12) (r := 0) rfl (by decide) (by decide) (to18 c) rfl rfl rfl rfl) ?_
  refine step (send W K c (3, 2) (o := 3) (s := 13) (r := 0) rfl (by decide) (by decide) (to19 c) rfl rfl rfl rfl) ?_
  refine step (send W K c (4, 2) (o := 3) (s := 14) (r := 0) rfl (by decide) (by decide) (to20 c) rfl rfl rfl rfl) ?_
  refine stepL (ld_x X G I W c) ?_
  refine stepL (ld_g X G I W c) ?_
  exact n

theorem part9 (v2 : BitVec 32) (v219 : FVec F S512x256 .bf16) (v222 : FVec F S512x16 .f32) (v223 : FVec F S512 .f32) {Q : α → sProp 𝕄} {R : sProp 𝕄}
    {kk : _ → Prog (TpuEff nD τ sig (Elt F) Λ₀ .tc) α}
    (n : at_ X G I W K c 3 15 0 a o R ⊢ runs c (kk ⟨cols, k0_pay13 v222 v223 (col0 (I c)) (col1 (I c)),
      k0_pay14 v2 v219 v222 v223 (col0 (I c)) (col1 (I c)) (tile 0 (W (fwd 0 c))) (row 0 (W (fwd 0 c)))⟩) Q) :
    at_ X G I W K c 3 15 0 a o R ⊢ runs c (at0 (k0_part9 (F := F)) v2 v219 v222 v223 >>= kk) Q := by
  rw [k0_part9_eq_skeleton]
  unfold k0_part9_skel at0
  simp only [Prog.lift, Prog.bind_op, Prog.bind_ret, Prog.pure_eq_ret, Prog.bind_assoc]
  refine stepL (ld_i0 X G I W c) ?_
  refine stepL (ld_i1 X G I W c) ?_
  refine stepN (tileLd W c 0 0 (hq := squeezes_S1x1x256x512_S256x512) (by decide) rfl) ?_
  refine stepN (rowLd11 W c 0 0 0 (by decide) (by decide) rfl) ?_
  exact n

theorem part10 (v2 v7 : BitVec 32) (v219 : FVec F S512x256 .bf16) (v232 : IVec S512x16 32) (v247 : FVec F S512x16 .f32) (v264 : FVec F S512x512 .f32)
    {Q : α → sProp 𝕄} {R : sProp 𝕄} {kk : _ → Prog (TpuEff nD τ sig (Elt F) Λ₀ .tc) α}
    (n : at_ X G I W K c 3 15 1 (k0_pay15 v2 v219 v232 v247 v264 (tile 1 (W (fwd 0 c))) (row 1 (W (fwd 0 c)))) o R ⊢ runs c (kk 1#32) Q) :
    at_ X G I W K c 3 15 0 a o R ⊢ runs c (at0 (k0_part10 (F := F)) v2 v7 v219 v232 v247 v264 >>= kk) Q := by
  rw [k0_part10_eq_skeleton]
  unfold k0_part10_skel at0
  simp only [Prog.lift, Prog.bind_op, Prog.bind_ret, Prog.pure_eq_ret, Prog.bind_assoc]
  refine stepN (tileLd W c 0 1 (hq := squeezes_S1x1x256x512_S256x512) (by decide) rfl) ?_
  refine stepN (rowLd11 W c 0 0 1 (by decide) (by decide) rfl) ?_
  refine stepL (ld_a X G I W c) ?_
  refine stepL (st_a X G I W c) ?_
  refine step (recv W K c (0, 2) (o := 3) (s := 15) (r := 0) rfl (by decide) (by decide) (by decide) rfl rfl) ?_
  exact n

theorem part11 (v5 v7 x : BitVec 32) {Q : α → sProp 𝕄} {R : sProp 𝕄} {kk : _ → Prog (TpuEff nD τ sig (Elt F) Λ₀ .tc) α}
    (n : at_ X G I W K c 3 17 2 a o R ⊢ runs c (kk ⟨⟩) Q) : at_ X G I W K c 3 15 1 a o R ⊢ runs c (at0 (k0_part11 (F := F)) c v5 v7 x >>= kk) Q := by
  rw [k0_part11_eq_skeleton]
  unfold k0_part11_skel at0
  simp only [Prog.lift, Prog.bind_op, Prog.bind_ret, Prog.pure_eq_ret, Prog.bind_assoc]
  refine step (send W K c (5, 2) (o := 3) (s := 15) (r := 1) rfl (by decide) (by decide) (to21 c) rfl rfl rfl rfl) ?_
  refine step (recv W K c (1, 2) (o := 3) (s := 16) (r := 1) rfl (by decide) (by decide) (by decide) rfl rfl) ?_
  refine step (send W K c (6, 2) (o := 3) (s := 16) (r := 2) rfl (by decide) (by decide) (to22 c) rfl rfl rfl rfl) ?_
  exact n

theorem part12 (v5 v7 : BitVec 32) {Q : α → sProp 𝕄} {R : sProp 𝕄} {kk : _ → Prog (TpuEff nD τ sig (Elt F) Λ₀ .tc) α}
    (n : at_ X G I W K c 3 18 3 a o R ⊢ runs c (kk ⟨⟩) Q) : at_ X G I W K c 3 17 2 a o R ⊢ runs c (at0 (k0_part12 (F := F)) c v5 v7 >>= kk) Q := by
  rw [k0_part12_eq_skeleton]
  unfold k0_part12_skel at0
  simp only [Prog.lift, Prog.bind_op, Prog.bind_ret, Prog.pure_eq_ret, Prog.bind_assoc]
  refine step (recv W K c (0, 0) (o := 3) (s := 17) (r := 2) rfl (by decide) (by decide) (by decide) rfl rfl) ?_
  refine step (send W K c (5, 0) (o := 3) (s := 17) (r := 3) rfl (by decide) (by decide) (to23 c) rfl rfl rfl rfl) ?_
  exact n

theorem part13 (v5 v7 : BitVec 32) {Q : α → sProp 𝕄} {R : sProp 𝕄} {kk : _ → Prog (TpuEff nD τ sig (Elt F) Λ₀ .tc) α}
    (n : at_ X G I W K c 3 19 5 a o R ⊢ runs c (kk ⟨⟩) Q) : at_ X G I W K c 3 18 3 a o R ⊢ runs c (at0 (k0_part13 (F := F)) c v5 v7 >>= kk) Q := by
  rw [k0_part13_eq_skeleton]
  unfold k0_part13_skel at0
  simp only [Prog.lift, Prog.bind_op, Prog.bind_ret, Prog.pure_eq_ret, Prog.bind_assoc]
  refine step (recv W K c (1, 0) (o := 3) (s := 18) (r := 3) rfl (by decide) (by decide) (by decide) rfl rfl) ?_
  refine step (send W K c (6, 0) (o := 3) (s := 18) (r := 4) rfl (by decide) (by decide) (to24 c) rfl rfl rfl rfl) ?_
  refine step (recv W K c (0, 1) (o := 3) (s := 19) (r := 4) rfl (by decide) (by decide) (by decide) rfl rfl) ?_
  exact n

theorem part14 (v5 v7 : BitVec 32) {Q : α → sProp 𝕄} {R : sProp 𝕄} {kk : _ → Prog (TpuEff nD τ sig (Elt F) Λ₀ .tc) α}
    (n : at_ X G I W K c 3 20 6 a o R ⊢ runs c (kk ⟨⟩) Q) : at_ X G I W K c 3 19 5 a o R ⊢ runs c (at0 (k0_part14 (F := F)) c v5 v7 >>= kk) Q := by
  rw [k0_part14_eq_skeleton]
  unfold k0_part14_skel at0
  simp only [Prog.lift, Prog.bind_op, Prog.bind_ret, Prog.pure_eq_ret, Prog.bind_assoc]
  refine step (send W K c (5, 1) (o := 3) (s := 19) (r := 5) rfl (by decide) (by decide) (to25 c) rfl rfl rfl rfl) ?_
  refine step (recv W K c (1, 1) (o := 3) (s := 20) (r := 5) rfl (by decide) (by decide) (by decide) rfl rfl) ?_
  exact n

/-- The device one place before and one place after, as words. -/
def word398 (v2 : BitVec 32) : BitVec 32 := Scalar.remsi (Scalar.subi (Scalar.subi (Scalar.addi v2 8#32) 1#32) 0#32) 8#32
def word401 (v2 : BitVec 32) : BitVec 32 := Scalar.remsi (Scalar.addi (Scalar.addi v2 1#32) 0#32) 8#32

theorem part15 (v2 : BitVec 32) (v219 : FVec F S512x256 .bf16) (v232 : IVec S512x16 32) (v247 : FVec F S512x16 .f32) {Q : α → sProp 𝕄} {R : sProp 𝕄}
    {kk : _ → Prog (TpuEff nD τ sig (Elt F) Λ₀ .tc) α}
    (n : at_ X G I W K c 3 21 6 a o R ⊢ runs c (kk ⟨word398 v2, word401 v2, k0_pay16 v2 v219 v232 v247 (tile 0 (W (fwd 7 c))) (row 0 (W (fwd 7 c))),
      tile 0 (W (fwd 1 c))⟩) Q) :
    at_ X G I W K c 3 20 6 a o R ⊢ runs c (at0 (k0_part15 (F := F)) c v2 v219 v232 v247 >>= kk) Q := by
  rw [k0_part15_eq_skeleton]
  unfold k0_part15_skel at0
  simp only [Prog.lift, Prog.bind_op, Prog.bind_ret, Prog.pure_eq_ret, Prog.bind_assoc]
  refine step (send W K c (6, 1) (o := 3) (s := 20) (r := 6) rfl (by decide) (by decide) (to26 c) rfl rfl rfl rfl) ?_
  refine stepN (tileLd W c 7 0 (hq := squeezes_S1x1x256x512_S256x512) (by decide) rfl) ?_
  refine stepN (rowLd11 W c 7 1 0 (by decide) (by decide) rfl) ?_
  refine stepN (tileLd W c 1 0 (hq := squeezes_S1x1x256x512_S256x512) (by decide) rfl) ?_
  exact n

theorem part16 (v219 : FVec F S512x256 .bf16) (v232 : IVec S512x16 32) (v247 : FVec F S512x16 .f32) (v398 v401 : BitVec 32) (v421 : FVec F S512x512 .f32) (v422 : Vec F S1x1x256x512 .i8) {Q : α → sProp 𝕄} {R : sProp 𝕄}
    {kk : _ → Prog (TpuEff nD τ sig (Elt F) Λ₀ .tc) α}
    (n : at_ X G I W K c 3 21 6 a o R ⊢ runs c (kk (k0_pay17 v219 v232 v247 v398 v401 v421 v422 (row 0 (W (fwd 1 c))) (tile 1 (W (fwd 7 c))) (row 1 (W (fwd 7 c))))) Q) :
    at_ X G I W K c 3 21 6 a o R ⊢ runs c (at0 (k0_part16 (F := F)) v219 v232 v247 v398 v401 v421 v422 >>= kk) Q := by
  rw [k0_part16_eq_skeleton]
  unfold k0_part16_skel at0
  simp only [Prog.lift, Prog.bind_op, Prog.bind_ret, Prog.pure_eq_ret, Prog.bind_assoc]
  refine stepN (rowLd12 W c 1 0 0 (by decide) (by decide) rfl) ?_
  refine stepN (tileLd W c 7 1 (hq := squeezes_S1x1x256x512_S256x512) (by decide) rfl) ?_
  refine stepN (rowLd11 W c 7 1 1 (by decide) (by decide) rfl) ?_
  exact n

theorem part17 (v9 : BitVec 32) (v219 : FVec F S512x256 .bf16) (v232 : IVec S512x16 32) (v247 : FVec F S512x16 .f32) (v401 : BitVec 32) (v459 : FVec F S512x512 .f32) {Q : α → sProp 𝕄} {R : sProp 𝕄}
    {kk : _ → Prog (TpuEff nD τ sig (Elt F) Λ₀ .tc) α}
    (n : at_ X G I W K c 3 21 7 (k0_pay18 v219 v232 v247 v401 v459 (tile 1 (W (fwd 1 c))) (row 1 (W (fwd 1 c))) a) o R ⊢ runs c (kk ⟨k0_pay19, 1#32⟩) Q) :
    at_ X G I W K c 3 21 6 a o R ⊢ runs c (at0 (k0_part17 (F := F)) v9 v219 v232 v247 v401 v459 >>= kk) Q := by
  rw [k0_part17_eq_skeleton]
  unfold k0_part17_skel at0
  simp only [Prog.lift, Prog.bind_op, Prog.bind_ret, Prog.pure_eq_ret, Prog.bind_assoc]
  refine stepN (tileLd W c 1 1 (hq := squeezes_S1x1x256x512_S256x512) (by decide) rfl) ?_
  refine stepN (rowLd12 W c 1 0 1 (by decide) (by decide) rfl) ?_
  refine stepL (ld_a X G I W c) ?_
  refine stepL (ld_a X G I W c) ?_
  refine stepL (st_a X G I W c) ?_
  refine step (recv W K c (2, 2) (o := 3) (s := 21) (r := 6) rfl (by decide) (by decide) (by decide) rfl rfl) ?_
  exact n

theorem part18 (v9 : BitVec 32) (v219 : FVec F S512x256 .bf16) (v232 : IVec S512x16 32) (v247 : FVec F S512x16 .f32) (v490 : FVec F S512x512 .f32) (x : BitVec 32) {Q : α → sProp 𝕄} {R : sProp 𝕄}
    {kk : _ → Prog (TpuEff nD τ sig (Elt F) Λ₀ .tc) α}
    (n : at_ X G I W K c 3 21 8 a o R ⊢ runs c (kk (k0_pay20 v9 v219 v232 v247 v490 (flat 0 (W (fwd 4 c))) (flatRow0 (W (fwd 4 c))))) Q) :
    at_ X G I W K c 3 21 7 a o R ⊢ runs c (at0 (k0_part18 (F := F)) v9 v219 v232 v247 v490 x >>= kk) Q := by
  rw [k0_part18_eq_skeleton]
  unfold k0_part18_skel at0
  simp only [Prog.lift, Prog.bind_op, Prog.bind_ret, Prog.pure_eq_ret, Prog.bind_assoc]
  refine step (recv W K c (2, 0) (o := 3) (s := 21) (r := 7) rfl (by decide) (by decide) (by decide) rfl rfl) ?_
  refine stepN (tileLd W c 4 0 (hq := squeezes_S1x256x512_S256x512) (by decide) rfl) ?_
  refine stepN (rowLd W c 4 (by decide) rfl) ?_
  exact n

theorem part19 (v9 v11 : BitVec 32) (v219 : FVec F S512x256 .bf16) (v232 : IVec S512x16 32) (v247 : FVec F S512x16 .f32) (v516 : FVec F S512x512 .f32) {Q : α → sProp 𝕄} {R : sProp 𝕄}
    {kk : _ → Prog (TpuEff nD τ sig (Elt F) Λ₀ .tc) α}
    (n : at_ X G I W K c 3 21 10 (k0_pay21 v9 v219 v232 v247 v516 (flat 1 (W (fwd 4 c))) (flatRow1 (W (fwd 4 c))) a) o R ⊢ runs c (kk k0_pay22) Q) :
    at_ X G I W K c 3 21 8 a o R ⊢ runs c (at0 (k0_part19 (F := F)) v9 v11 v219 v232 v247 v516 >>= kk) Q := by
  rw [k0_part19_eq_skeleton]
  unfold k0_part19_skel at0
  simp only [Prog.lift, Prog.bind_op, Prog.bind_ret, Prog.pure_eq_ret, Prog.bind_assoc]
  refine step (recv W K c (2, 1) (o := 3) (s := 21) (r := 8) rfl (by decide) (by decide) (by decide) rfl rfl) ?_
  refine stepN (tileLd W c 4 1 (hq := squeezes_S1x256x512_S256x512) (by decide) rfl) ?_
  refine stepN (rowLd W c 4 (by decide) rfl) ?_
  refine stepL (ld_a X G I W c) ?_
  refine stepL (ld_a X G I W c) ?_
  refine stepL (st_a X G I W c) ?_
  refine step (recv W K c (3, 2) (o := 3) (s := 21) (r := 9) rfl (by decide) (by decide) (by decide) rfl rfl) ?_
  exact n

theorem part20 (v11 v14 : BitVec 32) (v219 : FVec F S512x256 .bf16) (v232 : IVec S512x16 32) (v247 : FVec F S512x16 .f32) (v554 : FVec F S512x512 .f32) {Q : α → sProp 𝕄} {R : sProp 𝕄}
    {kk : _ → Prog (TpuEff nD τ sig (Elt F) Λ₀ .tc) α}
    (n : at_ X G I W K c 3 21 11 a o R ⊢ runs c (kk (k0_pay23 v14 v219 v232 v247 v554 (flat 0 (W (fwd 5 c))) (flatRow0 (W (fwd 5 c))))) Q) :
    at_ X G I W K c 3 21 10 a o R ⊢ runs c (at0 (k0_part20 (F := F)) v11 v14 v219 v232 v247 v554 >>= kk) Q := by
  rw [k0_part20_eq_skeleton]
  unfold k0_part20_skel at0
  simp only [Prog.lift, Prog.bind_op, Prog.bind_ret, Prog.pure_eq_ret, Prog.bind_assoc]
  refine step (recv W K c (3, 0) (o := 3) (s := 21) (r := 10) rfl (by decide) (by decide) (by decide) rfl rfl) ?_
  refine stepN (tileLd W c 5 0 (hq := squeezes_S1x256x512_S256x512) (by decide) rfl) ?_
  refine stepN (rowLd W c 5 (by decide) rfl) ?_
  exact n

theorem part21 (v14 : BitVec 32) (v219 : FVec F S512x256 .bf16) (v232 : IVec S512x16 32) (v247 : FVec F S512x16 .f32) (v580 : FVec F S512x512 .f32) {Q : α → sProp 𝕄} {R : sProp 𝕄}
    {kk : _ → Prog (TpuEff nD τ sig (Elt F) Λ₀ .tc) α}
    (n : at_ X G I W K c 3 21 13 (k0_pay24 v14 v219 v232 v247 v580 (flat 1 (W (fwd 5 c))) (flatRow1 (W (fwd 5 c))) a) o R ⊢ runs c (kk k0_pay25) Q) :
    at_ X G I W K c 3 21 11 a o R ⊢ runs c (at0 (k0_part21 (F := F)) v14 v219 v232 v247 v580 >>= kk) Q := by
  rw [k0_part21_eq_skeleton]
  unfold k0_part21_skel at0
  simp only [Prog.lift, Prog.bind_op, Prog.bind_ret, Prog.pure_eq_ret, Prog.bind_assoc]
  refine step (recv W K c (3, 1) (o := 3) (s := 21) (r := 11) rfl (by decide) (by decide) (by decide) rfl rfl) ?_
  refine stepN (tileLd W c 5 1 (hq := squeezes_S1x256x512_S256x512) (by decide) rfl) ?_
  refine stepN (rowLd W c 5 (by decide) rfl) ?_
  refine stepL (ld_a X G I W c) ?_
  refine stepL (ld_a X G I W c) ?_
  refine stepL (st_a X G I W c) ?_
  refine step (recv W K c (4, 2) (o := 3) (s := 21) (r := 12) rfl (by decide) (by decide) (by decide) rfl rfl) ?_
  exact n

theorem part22 (v11 v14 : BitVec 32) (v219 : FVec F S512x256 .bf16) (v232 : IVec S512x16 32) (v247 : FVec F S512x16 .f32) (v618 : FVec F S512x512 .f32) {Q : α → sProp 𝕄} {R : sProp 𝕄}
    {kk : _ → Prog (TpuEff nD τ sig (Elt F) Λ₀ .tc) α}
    (n : at_ X G I W K c 3 21 14 a o R ⊢ runs c (kk (k0_pay26 v11 v219 v232 v247 v618 (flat 0 (W (fwd 3 c))) (flatRow0 (W (fwd 3 c))))) Q) :
    at_ X G I W K c 3 21 13 a o R ⊢ runs c (at0 (k0_part22 (F := F)) v11 v14 v219 v232 v247 v618 >>= kk) Q := by
  rw [k0_part22_eq_skeleton]
  unfold k0_part22_skel at0
  simp only [Prog.lift, Prog.bind_op, Prog.bind_ret, Prog.pure_eq_ret, Prog.bind_assoc]
  refine step (recv W K c (4, 0) (o := 3) (s := 21) (r := 13) rfl (by decide) (by decide) (by decide) rfl rfl) ?_
  refine stepN (tileLd W c 3 0 (hq := squeezes_S1x256x512_S256x512) (by decide) rfl) ?_
  refine stepN (rowLd W c 3 (by decide) rfl) ?_
  exact n

theorem part23 (v7 v11 : BitVec 32) (v219 : FVec F S512x256 .bf16) (v232 : IVec S512x16 32) (v247 : FVec F S512x16 .f32) (v644 : FVec F S512x512 .f32) {Q : α → sProp 𝕄} {R : sProp 𝕄}
    {kk : _ → Prog (TpuEff nD τ sig (Elt F) Λ₀ .tc) α}
    (n : at_ X G I W K c 3 21 15 (k0_pay27 v11 v219 v232 v247 v644 (flat 1 (W (fwd 3 c))) (flatRow1 (W (fwd 3 c))) a) o R ⊢ runs c (kk ⟨⟩) Q) :
    at_ X G I W K c 3 21 14 a o R ⊢ runs c (at0 (k0_part23 (F := F)) v7 v11 v219 v232 v247 v644 >>= kk) Q := by
  rw [k0_part23_eq_skeleton]
  unfold k0_part23_skel at0
  simp only [Prog.lift, Prog.bind_op, Prog.bind_ret, Prog.pure_eq_ret, Prog.bind_assoc]
  refine step (recv W K c (4, 1) (o := 3) (s := 21) (r := 14) rfl (by decide) (by decide) (by decide) rfl rfl) ?_
  refine stepN (tileLd W c 3 1 (hq := squeezes_S1x256x512_S256x512) (by decide) rfl) ?_
  refine stepN (rowLd W c 3 (by decide) rfl) ?_
  refine stepL (ld_a X G I W c) ?_
  refine stepL (ld_a X G I W c) ?_
  refine stepL (st_a X G I W c) ?_
  exact n

theorem part24 (v5 v7 : BitVec 32) {Q : α → sProp 𝕄} {R : sProp 𝕄} {kk : _ → Prog (TpuEff nD τ sig (Elt F) Λ₀ .tc) α}
    (n : at_ X G I W K c 3 21 18 a o R ⊢ runs c (kk ⟨⟩) Q) : at_ X G I W K c 3 21 15 a o R ⊢ runs c (at0 (k0_part24 (F := F)) v5 v7 >>= kk) Q := by
  rw [k0_part24_eq_skeleton]
  unfold k0_part24_skel at0
  simp only [Prog.lift, Prog.bind_op, Prog.bind_ret, Prog.pure_eq_ret, Prog.bind_assoc]
  refine step (recv W K c (5, 0) (o := 3) (s := 21) (r := 15) rfl (by decide) (by decide) (by decide) rfl rfl) ?_
  refine step (recv W K c (6, 0) (o := 3) (s := 21) (r := 16) rfl (by decide) (by decide) (by decide) rfl rfl) ?_
  refine step (recv W K c (5, 1) (o := 3) (s := 21) (r := 17) rfl (by decide) (by decide) (by decide) rfl rfl) ?_
  exact n

/-- The device two places before, before the remainder is taken, and the device two places after, as words. -/
def word726 (v2 : BitVec 32) : BitVec 32 := Scalar.subi (Scalar.subi (Scalar.addi v2 8#32) 1#32) 1#32
def word730 (v2 : BitVec 32) : BitVec 32 := Scalar.remsi (Scalar.addi (Scalar.addi v2 1#32) 1#32) 8#32

theorem part25 (v2 v5 v7 : BitVec 32) {Q : α → sProp 𝕄} {R : sProp 𝕄} {kk : _ → Prog (TpuEff nD τ sig (Elt F) Λ₀ .tc) α}
    (n : at_ X G I W K c 3 21 21 a o R ⊢ runs c (kk (word726 v2)) Q) : at_ X G I W K c 3 21 18 a o R ⊢ runs c (at0 (k0_part25 (F := F)) v2 v5 v7 >>= kk) Q := by
  rw [k0_part25_eq_skeleton]
  unfold k0_part25_skel at0
  simp only [Prog.lift, Prog.bind_op, Prog.bind_ret, Prog.pure_eq_ret, Prog.bind_assoc]
  refine step (recv W K c (6, 1) (o := 3) (s := 21) (r := 18) rfl (by decide) (by decide) (by decide) rfl rfl) ?_
  refine step (recv W K c (5, 2) (o := 3) (s := 21) (r := 19) rfl (by decide) (by decide) (by decide) rfl rfl) ?_
  refine step (recv W K c (6, 2) (o := 3) (s := 21) (r := 20) rfl (by decide) (by decide) (by decide) rfl rfl) ?_
  exact n

theorem part26 (v2 : BitVec 32) (v219 : FVec F S512x256 .bf16) (v232 : IVec S512x16 32) (v247 : FVec F S512x16 .f32) (v726 : BitVec 32) {Q : α → sProp 𝕄} {R : sProp 𝕄} {kk : _ → Prog (TpuEff nD τ sig (Elt F) Λ₀ .tc) α}
    (n : at_ X G I W K c 3 21 21 a o R ⊢ runs c (kk ⟨Scalar.remsi v726 8#32, word730 v2, k0_pay28 v219 v232 v247 v726 (tile 0 (W (fwd 6 c))) (row 0 (W (fwd 6 c))),
      Scalar.addi (Scalar.muli (word730 v2) 2#32) 0#32, k0_pay29 v219 (tile 0 (W (fwd 2 c))), k0_pay30 (row 0 (W (fwd 2 c)))⟩) Q) :
    at_ X G I W K c 3 21 21 a o R ⊢ runs c (at0 (k0_part26 (F := F)) v2 v219 v232 v247 v726 >>= kk) Q := by
  rw [k0_part26_eq_skeleton]
  unfold k0_part26_skel at0
  simp only [Prog.lift, Prog.bind_op, Prog.bind_ret, Prog.pure_eq_ret, Prog.bind_assoc]
  refine stepN (tileLd W c 6 0 (hq := squeezes_S1x1x256x512_S256x512) (by decide) rfl) ?_
  refine stepN (rowLd11 W c 6 2 0 (by decide) (by decide) rfl) ?_
  refine stepN (tileLd W c 2 0 (hq := squeezes_S1x1x256x512_S256x512) (by decide) rfl) ?_
  refine stepN (rowLd12 W c 2 1 0 (by decide) (by decide) rfl) ?_
  exact n

theorem part27 (v219 : FVec F S512x256 .bf16) (v232 : IVec S512x16 32) (v247 : FVec F S512x16 .f32) (v727 v730 : BitVec 32) (v750 : FVec F S512x512 .f32) (v756 : BitVec 32) (v758 v759 : FVec F S512x512 .f32)
    {Q : α → sProp 𝕄} {R : sProp 𝕄} {kk : _ → Prog (TpuEff nD τ sig (Elt F) Λ₀ .tc) α}
    (n : at_ X G I W K c 3 21 21 a o R ⊢ runs c (kk ⟨k0_pay31 v219 v232 v247 v727 v750 v756 v758 v759 (tile 1 (W (fwd 6 c))) (row 1 (W (fwd 6 c))),
      k0_pay32 (row 1 (W (fwd 2 c))), Scalar.addi (Scalar.muli v730 2#32) 1#32, k0_pay33 (tile 1 (W (fwd 2 c))), constant S512x512 .f32 0x00000000#32⟩) Q) :
    at_ X G I W K c 3 21 21 a o R ⊢ runs c (at0 (k0_part27 (F := F)) v219 v232 v247 v727 v730 v750 v756 v758 v759 >>= kk) Q := by
  rw [k0_part27_eq_skeleton]
  unfold k0_part27_skel at0
  simp only [Prog.lift, Prog.bind_op, Prog.bind_ret, Prog.pure_eq_ret, Prog.bind_assoc]
  refine stepN (tileLd W c 6 1 (hq := squeezes_S1x1x256x512_S256x512) (by decide) rfl) ?_
  refine stepN (rowLd11 W c 6 2 1 (by decide) (by decide) rfl) ?_
  refine stepN (tileLd W c 2 1 (hq := squeezes_S1x1x256x512_S256x512) (by decide) rfl) ?_
  refine stepN (rowLd12 W c 2 1 1 (by decide) (by decide) rfl) ?_
  exact n

end Part

end Cert.Moe

end
-- ==== Proof.Slots.lean ====
/-
# `Slots`: the receive buffers cut into slots, and put together again
-/
module

public import proofs.«01_k».proof.Proof.Frames
public import Idealize.ShloMosaic.Lib.Ring

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem both {P P' Q Q' : sProp 𝕄} (a : P ⊣⊢ P') (b : Q ⊣⊢ Q') : iprop(P ∗ Q) ⊣⊢ iprop(P' ∗ Q') := ⟨BI.sep_mono a.1 b.1, BI.sep_mono a.2 b.2⟩

theorem some_of {ℓ : Loc nD τ sig} {I : Finset (Idx ℓ)} (f : Buf (Elt F) ℓ) : (ℓ ↦[I]{fullShare} f : sProp 𝕄) ⊢ iprop(∃ f, ℓ ↦[I]{fullShare} f) := by
  iintro H; iexists f; iexact H

/-- A buffer cut along a function of its indices. -/
theorem cut {ℓ : Loc nD τ sig} {B : Type} [Fintype B] [DecidableEq B] (I : B → Finset (Idx ℓ)) (n : Idx ℓ → B) (h : ∀ b i, i ∈ I b ↔ n i = b)
    (f₀ : Buf (Elt F) ℓ) : (iprop(∃ f, ℓ ↦{fullShare} f) : sProp 𝕄) ⊣⊢ bigSep Finset.univ fun b => iprop(∃ f, ℓ ↦[I b]{fullShare} f) := by
  have hd : ∀ b b', b ≠ b' → Disjoint (I b) (I b') := fun b b' hb =>
    Finset.disjoint_left.mpr fun i hi hi' => hb (((h b i).mp hi).symm.trans ((h b' i).mp hi'))
  have hc : Finset.univ.biUnion I = Finset.univ := Finset.eq_univ_iff_forall.mpr fun i =>
    Finset.mem_biUnion.mpr ⟨n i, Finset.mem_univ _, (h _ i).mpr rfl⟩
  constructor
  · iintro ⟨%f, H⟩
    ihave H := (Entails.of_eq (Ring.pointsTo_blocks I hd hc f)) $$ H
    have e : (bigSep Finset.univ fun b => (ℓ ↦[I b]{fullShare} f : sProp 𝕄)) ⊢ bigSep Finset.univ fun b => iprop(∃ f, ℓ ↦[I b]{fullShare} f) :=
      bigSep_mono fun b _ => some_of f
    iapply e; iexact H
  · exact Ring.pointsTo_blocks_join_exists I hd hc f₀

/-! ## Which elements a slot has -/

theorem mem_til6 (h j : ℕ) (p) (i : S3x2x256x512.Idx) : i ∈ (til6 h j p).view.set ↔ (i 0).val = h ∧ (i 1).val = j := by
  rw [show (til6 h j p).view.set = (Rect.unit (s := S3x2x256x512) ![h, j, 0, 0] S1x1x256x512.size p).set from
    (View.set_reshape _ _).trans (View.set_slice_whole _ _), Rect.mem_set_unit]
  constructor
  · intro H
    have h0 : h ≤ (i 0).val ∧ (i 0).val < h + 1 := H 0
    have h1 : j ≤ (i 1).val ∧ (i 1).val < j + 1 := H 1
    omega
  · rintro ⟨e0, e1⟩ a
    match a with
    | 0 => show h ≤ (i 0).val ∧ (i 0).val < h + 1; omega
    | 1 => show j ≤ (i 1).val ∧ (i 1).val < j + 1; omega
    | 2 => have := (i 2).isLt; change (i 2).val < 256 at this; show 0 ≤ (i 2).val ∧ (i 2).val < 0 + 256; omega
    | 3 => have := (i 3).isLt; change (i 3).val < 512 at this; show 0 ≤ (i 3).val ∧ (i 3).val < 0 + 512; omega

theorem mem_til7 (h j : ℕ) (p) (i : S2x2x256x512.Idx) : i ∈ (til7 h j p).view.set ↔ (i 0).val = h ∧ (i 1).val = j := by
  rw [show (til7 h j p).view.set = (Rect.unit (s := S2x2x256x512) ![h, j, 0, 0] S1x1x256x512.size p).set from
    (View.set_reshape _ _).trans (View.set_slice_whole _ _), Rect.mem_set_unit]
  constructor
  · intro H
    have h0 : h ≤ (i 0).val ∧ (i 0).val < h + 1 := H 0
    have h1 : j ≤ (i 1).val ∧ (i 1).val < j + 1 := H 1
    omega
  · rintro ⟨e0, e1⟩ a
    match a with
    | 0 => show h ≤ (i 0).val ∧ (i 0).val < h + 1; omega
    | 1 => show j ≤ (i 1).val ∧ (i 1).val < j + 1; omega
    | 2 => have := (i 2).isLt; change (i 2).val < 256 at this; show 0 ≤ (i 2).val ∧ (i 2).val < 0 + 256; omega
    | 3 => have := (i 3).isLt; change (i 3).val < 512 at this; show 0 ≤ (i 3).val ∧ (i 3).val < 0 + 512; omega

/-- The slots of a buffer with one place, two experts. -/
theorem mem_two (j : ℕ) (p : ∀ i, (![j, 0, 0] : Fin 3 → ℕ) i + S1x256x512.size i ≤ S2x256x512.size i) (i : S2x256x512.Idx) :
    i ∈ (Rect.unit (s := S2x256x512) ![j, 0, 0] S1x256x512.size p).set ↔ (i 0).val = j := by
  rw [Rect.mem_set_unit]
  constructor
  · intro H
    have h0 : j ≤ (i 0).val ∧ (i 0).val < j + 1 := H 0
    omega
  · intro e0 a
    match a with
    | 0 => show j ≤ (i 0).val ∧ (i 0).val < j + 1; omega
    | 1 => have := (i 1).isLt; change (i 1).val < 256 at this; show 0 ≤ (i 1).val ∧ (i 1).val < 0 + 256; omega
    | 2 => have := (i 2).isLt; change (i 2).val < 512 at this; show 0 ≤ (i 2).val ∧ (i 2).val < 0 + 512; omega

theorem mem_sc11 (h : ℕ) (p) (i : S3x2x512.Idx) : i ∈ (sc11 h p).view.set ↔ (i 0).val = h := by
  rw [show (sc11 h p).view.set = (Rect.unit (s := S3x2x512) ![h, 0, 0] S1x2x512.size p).set from
    (View.set_reshape _ _).trans (View.set_slice_whole _ _), Rect.mem_set_unit]
  constructor
  · intro H
    have h0 : h ≤ (i 0).val ∧ (i 0).val < h + 1 := H 0
    omega
  · intro e0 a
    match a with
    | 0 => show h ≤ (i 0).val ∧ (i 0).val < h + 1; omega
    | 1 => have := (i 1).isLt; change (i 1).val < 2 at this; show 0 ≤ (i 1).val ∧ (i 1).val < 0 + 2; omega
    | 2 => have := (i 2).isLt; change (i 2).val < 512 at this; show 0 ≤ (i 2).val ∧ (i 2).val < 0 + 512; omega

theorem mem_sc12 (h : ℕ) (p) (i : S2x2x512.Idx) : i ∈ (sc12 h p).view.set ↔ (i 0).val = h := by
  rw [show (sc12 h p).view.set = (Rect.unit (s := S2x2x512) ![h, 0, 0] S1x2x512.size p).set from
    (View.set_reshape _ _).trans (View.set_slice_whole _ _), Rect.mem_set_unit]
  constructor
  · intro H
    have h0 : h ≤ (i 0).val ∧ (i 0).val < h + 1 := H 0
    omega
  · intro e0 a
    match a with
    | 0 => show h ≤ (i 0).val ∧ (i 0).val < h + 1; omega
    | 1 => have := (i 1).isLt; change (i 1).val < 2 at this; show 0 ≤ (i 1).val ∧ (i 1).val < 0 + 2; omega
    | 2 => have := (i 2).isLt; change (i 2).val < 512 at this; show 0 ≤ (i 2).val ∧ (i 2).val < 0 + 512; omega

/-! ## Buffer by buffer -/

/-- A buffer of device `c`, whole, at some contents. -/
abbrev some_ (c : Dev nD) (b : Ref sig .tc) : sProp 𝕄 := iprop(∃ f : Buf (Elt F) ((c : Thread nD τ).loc b), ((c : Thread nD τ).loc b) ↦{fullShare} f)
abbrev any2 (c : Dev nD) (kp : Fin 8 × Fin 3) : sProp 𝕄 := anyAt c kp.1 kp.2

section Buffers
variable (c : Dev nD)

theorem buf1 : some_ (F := F) c cc0_scratch1 ⊣⊢ bigSepL [(0, 0), (0, 1), (7, 0), (7, 1), (6, 0), (6, 1)] (any2 c) := by
  have q : ∀ b : Fin 3 × Fin 2, ∀ i, (![b.1.val, b.2.val, 0, 0] : Fin 4 → ℕ) i + S1x1x256x512.size i ≤ S3x2x256x512.size i := by decide
  have e := cut (F := F) (ℓ := (c : Thread nD τ).loc cc0_scratch1) (B := Fin 3 × Fin 2) (fun b => (til6 b.1.val b.2.val (q b)).view.set)
    (fun (i : S3x2x256x512.Idx) => ((i 0 : Fin 3), (i 1 : Fin 2))) (fun b (i : S3x2x256x512.Idx) => (mem_til6 _ _ (q b) i).trans
      ⟨fun h => Prod.ext (Fin.ext h.1) (Fin.ext h.2), fun h => ⟨congrArg (fun b : Fin 3 × Fin 2 => b.1.val) h, congrArg (fun b : Fin 3 × Fin 2 => b.2.val) h⟩⟩)
    (fun _ => 0#8)
  rw [bigSep_univ_eq_bigSepL [(0, 0), (0, 1), (1, 0), (1, 1), (2, 0), (2, 1)] (by decide) (by decide)] at e
  exact e

theorem buf2 : some_ (F := F) c cc0_scratch2 ⊣⊢ bigSepL [(1, 0), (1, 1), (2, 0), (2, 1)] (any2 c) := by
  have q : ∀ b : Fin 2 × Fin 2, ∀ i, (![b.1.val, b.2.val, 0, 0] : Fin 4 → ℕ) i + S1x1x256x512.size i ≤ S2x2x256x512.size i := by decide
  have e := cut (F := F) (ℓ := (c : Thread nD τ).loc cc0_scratch2) (B := Fin 2 × Fin 2) (fun b => (til7 b.1.val b.2.val (q b)).view.set)
    (fun (i : S2x2x256x512.Idx) => ((i 0 : Fin 2), (i 1 : Fin 2))) (fun b (i : S2x2x256x512.Idx) => (mem_til7 _ _ (q b) i).trans
      ⟨fun h => Prod.ext (Fin.ext h.1) (Fin.ext h.2), fun h => ⟨congrArg (fun b : Fin 2 × Fin 2 => b.1.val) h, congrArg (fun b : Fin 2 × Fin 2 => b.2.val) h⟩⟩)
    (fun _ => 0#8)
  rw [bigSep_univ_eq_bigSepL [(0, 0), (0, 1), (1, 0), (1, 1)] (by decide) (by decide)] at e
  exact e

theorem two_places : ∀ b : Fin 2, ∀ i, (![b.val, 0, 0] : Fin 3 → ℕ) i + S1x256x512.size i ≤ S2x256x512.size i := by decide

theorem buf3 : some_ (F := F) c cc0_scratch3 ⊣⊢ bigSepL [(4, 0), (4, 1)] (any2 c) := by
  have e := cut (F := F) (ℓ := (c : Thread nD τ).loc cc0_scratch3) (B := Fin 2) (fun b => (til1 A8 b.val (two_places b)).view.set)
    (fun (i : S2x256x512.Idx) => (i 0 : Fin 2)) (fun b (i : S2x256x512.Idx) => by
      rw [show (til1 A8 b.val (two_places b)).view.set = _ from (View.set_reshape _ _).trans (View.set_slice_whole _ _)]
      exact (mem_two _ (two_places b) i).trans ⟨fun h => Fin.ext h, fun h => congrArg Fin.val h⟩)
    (fun _ => 0#8)
  rw [bigSep_univ_eq_bigSepL [0, 1] (by decide) (by decide)] at e
  exact e
theorem buf4 : some_ (F := F) c cc0_scratch4 ⊣⊢ bigSepL [(5, 0), (5, 1)] (any2 c) := by
  have e := cut (F := F) (ℓ := (c : Thread nD τ).loc cc0_scratch4) (B := Fin 2) (fun b => (til1 A9 b.val (two_places b)).view.set)
    (fun (i : S2x256x512.Idx) => (i 0 : Fin 2)) (fun b (i : S2x256x512.Idx) => by
      rw [show (til1 A9 b.val (two_places b)).view.set = _ from (View.set_reshape _ _).trans (View.set_slice_whole _ _)]
      exact (mem_two _ (two_places b) i).trans ⟨fun h => Fin.ext h, fun h => congrArg Fin.val h⟩)
    (fun _ => 0#8)
  rw [bigSep_univ_eq_bigSepL [0, 1] (by decide) (by decide)] at e
  exact e
theorem buf5 : some_ (F := F) c cc0_scratch5 ⊣⊢ bigSepL [(3, 0), (3, 1)] (any2 c) := by
  have e := cut (F := F) (ℓ := (c : Thread nD τ).loc cc0_scratch5) (B := Fin 2) (fun b => (til1 A10 b.val (two_places b)).view.set)
    (fun (i : S2x256x512.Idx) => (i 0 : Fin 2)) (fun b (i : S2x256x512.Idx) => by
      rw [show (til1 A10 b.val (two_places b)).view.set = _ from (View.set_reshape _ _).trans (View.set_slice_whole _ _)]
      exact (mem_two _ (two_places b) i).trans ⟨fun h => Fin.ext h, fun h => congrArg Fin.val h⟩)
    (fun _ => 0#8)
  rw [bigSep_univ_eq_bigSepL [0, 1] (by decide) (by decide)] at e
  exact e

theorem buf6 : some_ (F := F) c cc0_scratch6 ⊣⊢ bigSepL [(0, 2), (7, 2), (6, 2)] (any2 c) := by
  have q : ∀ b : Fin 3, ∀ i, (![b.val, 0, 0] : Fin 3 → ℕ) i + S1x2x512.size i ≤ S3x2x512.size i := by decide
  have e := cut (F := F) (ℓ := (c : Thread nD τ).loc cc0_scratch6) (B := Fin 3) (fun b => (sc11 b.val (q b)).view.set)
    (fun (i : S3x2x512.Idx) => (i 0 : Fin 3)) (fun b (i : S3x2x512.Idx) => (mem_sc11 _ (q b) i).trans ⟨fun h => Fin.ext h, fun h => congrArg Fin.val h⟩)
    (fun _ => FloatOps.ofBits .f32 0)
  rw [bigSep_univ_eq_bigSepL [0, 1, 2] (by decide) (by decide)] at e
  exact e

theorem buf7 : some_ (F := F) c cc0_scratch7 ⊣⊢ bigSepL [(1, 2), (2, 2)] (any2 c) := by
  have q : ∀ b : Fin 2, ∀ i, (![b.val, 0, 0] : Fin 3 → ℕ) i + S1x2x512.size i ≤ S2x2x512.size i := by decide
  have e := cut (F := F) (ℓ := (c : Thread nD τ).loc cc0_scratch7) (B := Fin 2) (fun b => (sc12 b.val (q b)).view.set)
    (fun (i : S2x2x512.Idx) => (i 0 : Fin 2)) (fun b (i : S2x2x512.Idx) => (mem_sc12 _ (q b) i).trans ⟨fun h => Fin.ext h, fun h => congrArg Fin.val h⟩)
    (fun _ => FloatOps.ofBits .f32 0)
  rw [bigSep_univ_eq_bigSepL [0, 1] (by decide) (by decide)] at e
  exact e

/-- A buffer that is one slot. -/
theorem buf8 : some_ (F := F) c cc0_scratch8 ⊣⊢ anyAt c 4 2 := by
  unfold anyAt ptsAt; rw [show (slot 4 2).view.set = Finset.univ from View.set_whole _]; exact .rfl
theorem buf9 : some_ (F := F) c cc0_scratch9 ⊣⊢ anyAt c 5 2 := by
  unfold anyAt ptsAt; rw [show (slot 5 2).view.set = Finset.univ from View.set_whole _]; exact .rfl
theorem buf10 : some_ (F := F) c cc0_scratch10 ⊣⊢ anyAt c 3 2 := by
  unfold anyAt ptsAt; rw [show (slot 3 2).view.set = Finset.univ from View.set_whole _]; exact .rfl

/-- All receive buffers. -/
def bufs : sProp 𝕄 :=
  iprop(some_ (F := F) c cc0_scratch1 ∗ some_ (F := F) c cc0_scratch2 ∗ some_ (F := F) c cc0_scratch3 ∗ some_ (F := F) c cc0_scratch4 ∗ some_ (F := F) c cc0_scratch5
    ∗ some_ (F := F) c cc0_scratch6 ∗ some_ (F := F) c cc0_scratch7 ∗ some_ (F := F) c cc0_scratch8 ∗ some_ (F := F) c cc0_scratch9 ∗ some_ (F := F) c cc0_scratch10)

theorem bufs_slots : bufs (F := F) c ⊣⊢ bigSep Finset.univ (any2 (F := F) c) := by
  rw [bigSep_univ_eq_bigSepL ([(0, 0), (0, 1), (7, 0), (7, 1), (6, 0), (6, 1)] ++ ([(1, 0), (1, 1), (2, 0), (2, 1)] ++ ([(4, 0), (4, 1)] ++ ([(5, 0), (5, 1)]
    ++ ([(3, 0), (3, 1)] ++ ([(0, 2), (7, 2), (6, 2)] ++ ([(1, 2), (2, 2)] ++ ([(4, 2)] ++ ([(5, 2)] ++ [(3, 2)]))))))))) (by decide +kernel) (by decide +kernel)]
  simp only [bigSepL_append, bigSepL_singleton]
  unfold bufs
  exact both (buf1 c) (both (buf2 c) (both (buf3 c) (both (buf4 c) (both (buf5 c) (both (buf6 c)
    (both (buf7 c) (both (buf8 c) (both (buf9 c) (buf10 c)))))))))

end Buffers

end Cert.Moe

end
-- ==== Proof.Parts3.lean ====
/-
# `Parts3`: the last pieces of the program: the result stored, every transfer's end waited for
-/
module

public import proofs.«01_k».proof.Proof.Parts2
public import proofs.«01_k».proof.Proof.Slots

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → (cc0_stg0_0 : Ref sig .tc).ty.Contents (Elt F)) (G : Dev nD → (cc0_stg1_0 : Ref sig .tc).ty.Contents (Elt F))
  (I : Dev nD → (cc0_stg2_0 : Ref sig .tc).ty.Contents (Elt F)) (W : Dev nD → (cc0_stg3_0 : Ref sig .tc).ty.Contents (Elt F))
variable (K : Dev nD × Cel → ℕ)

section Part

variable (c : Dev nD) {α : Type} {a : (cc0_scratch0 : Ref sig .tc).ty.Contents (Elt F)} {o : (cc0_stg4_0 : Ref sig .tc).ty.Contents (Elt F)}

/-! ## From the exchange to its end -/

/-- All transfers made and received: what is left is to wait for the end of each transfer made. -/
theorem toEnd : iprop(net W c 3 21 21 ∗ bigSep Finset.univ fun t : T => atPos EX (sndC c t) 0 ∅ 0)
    ⊢ (iprop(back W c 0 ∗ (bigSep Finset.univ fun t : T => closedR c t) ∗ held W c (stat 3 21 21)) : sProp 𝕄) := by
  have e1 : (bigSepL (sends.take 21) (sent (F := F) c)) = bigSepL backs (sent (F := F) c) :=
    (bigSep_univ_eq_bigSepL sends sends_univ.1 sends_univ.2 _).symm.trans (bigSep_univ_eq_bigSepL backs backs_univ.1 backs_univ.2 _)
  have e2 : (bigSepL (recvs.take 21) (closedR (F := F) c)) = bigSep Finset.univ fun t : T => closedR c t :=
    (bigSep_univ_eq_bigSepL recvs recvs_univ.1 recvs_univ.2 _).symm
  have e3 : (bigSep Finset.univ fun t : T => (atPos EX (sndC c t) 0 ∅ 0 : sProp 𝕄)) = bigSepL backs fun t => atPos EX (sndC c t) 0 ∅ 0 :=
    bigSep_univ_eq_bigSepL backs backs_univ.1 backs_univ.2 _
  have e4 : (bigSepL backs (toBack (F := F) c)) = iprop((bigSepL backs fun t => atPos EX (sndC c t) 0 ∅ 0) ∗ bigSepL backs (sent c)) := by
    rw [← bigSep_univ_eq_bigSepL backs backs_univ.1 backs_univ.2, ← bigSep_univ_eq_bigSepL backs backs_univ.1 backs_univ.2,
      ← bigSep_univ_eq_bigSepL backs backs_univ.1 backs_univ.2, ← bigSep_sep']
    rfl
  unfold net back
  rw [e1, e2, e3, show backs.drop 0 = backs from rfl, e4]
  iintro ⟨⟨HO, -, HS, -, HR, HH⟩, HA⟩
  isplitl [HO HS HA]
  · isplitl [HO]; · iexact HO
    isplitl [HA HS]
    · isplitl [HA]; · iexact HA
      iexact HS
    iempintro
  isplitl [HR]; · iexact HR
  iexact HH

/-- The state while transfers end: `w` of them waited for. -/
abbrev end_ (w : ℕ) (a : (cc0_scratch0 : Ref sig .tc).ty.Contents (Elt F)) (o : (cc0_stg4_0 : Ref sig .tc).ty.Contents (Elt F)) (R : sProp 𝕄) : sProp 𝕄 :=
  iprop(ctx W K ∗ back W c w ∗ mem X G I W c a o ∗ R)

theorem part28 (v219 : FVec F S512x256 .bf16) (v232 : IVec S512x16 32) (v247 : FVec F S512x16 .f32) (v788 : FVec F S512x512 .f32) (v792 : FVec F S1x512 .f32) (v794 : BitVec 32) (v795 : FVec F S256x512 .bf16) (cst : FVec F S512x512 .f32)
    {Q : α → sProp 𝕄} {R : sProp 𝕄} {kk : _ → Prog (TpuEff nD τ sig (Elt F) Λ₀ .tc) α}
    (n : end_ X G I W K c 1 (k0_pay34 v219 v232 v247 v788 v792 v794 v795 cst a) (k0_pay35 (k0_pay34 v219 v232 v247 v788 v792 v794 v795 cst a)) R ⊢ runs c (kk ⟨⟩) Q) :
    end_ X G I W K c 0 a o R ⊢ runs c (at0 (k0_part28 (F := F)) v219 v232 v247 v788 v792 v794 v795 cst >>= kk) Q := by
  rw [k0_part28_eq_skeleton]
  unfold k0_part28_skel at0
  simp only [Prog.lift, Prog.bind_op, Prog.bind_ret, Prog.pure_eq_ret, Prog.bind_assoc]
  refine stepL (ld_a X G I W c) ?_
  refine stepL (ld_a X G I W c) ?_
  refine stepL (st_a X G I W c) ?_
  refine stepL (ld_a X G I W c) ?_
  refine stepL (ld_o X G I W c) ?_
  refine stepL (st_o X G I W c) ?_
  refine step (backStep W K c (0, 0) (w := 0) rfl rfl rfl) ?_
  exact n

theorem part29 {Q : α → sProp 𝕄} {R : sProp 𝕄} {kk : _ → Prog (TpuEff nD τ sig (Elt F) Λ₀ .tc) α}
    (n : end_ X G I W K c 4 a o R ⊢ runs c (kk ⟨⟩) Q) : end_ X G I W K c 1 a o R ⊢ runs c (at0 (k0_part29 (F := F)) >>= kk) Q := by
  rw [k0_part29_eq_skeleton]
  unfold k0_part29_skel at0
  simp only [Prog.lift, Prog.bind_op, Prog.bind_ret, Prog.pure_eq_ret, Prog.bind_assoc]
  refine step (backStep W K c (1, 0) (w := 1) rfl rfl rfl) ?_
  refine step (backStep W K c (0, 1) (w := 2) rfl rfl rfl) ?_
  refine step (backStep W K c (1, 1) (w := 3) rfl rfl rfl) ?_
  exact n

theorem part30 {Q : α → sProp 𝕄} {R : sProp 𝕄} {kk : _ → Prog (TpuEff nD τ sig (Elt F) Λ₀ .tc) α}
    (n : end_ X G I W K c 7 a o R ⊢ runs c (kk ⟨⟩) Q) : end_ X G I W K c 4 a o R ⊢ runs c (at0 (k0_part30 (F := F)) >>= kk) Q := by
  rw [k0_part30_eq_skeleton]
  unfold k0_part30_skel at0
  simp only [Prog.lift, Prog.bind_op, Prog.bind_ret, Prog.pure_eq_ret, Prog.bind_assoc]
  refine step (backStep W K c (0, 2) (w := 4) rfl rfl rfl) ?_
  refine step (backStep W K c (1, 2) (w := 5) rfl rfl rfl) ?_
  refine step (backStep W K c (5, 0) (w := 6) rfl rfl rfl) ?_
  exact n

theorem part31 {Q : α → sProp 𝕄} {R : sProp 𝕄} {kk : _ → Prog (TpuEff nD τ sig (Elt F) Λ₀ .tc) α}
    (n : end_ X G I W K c 11 a o R ⊢ runs c (kk ⟨⟩) Q) : end_ X G I W K c 7 a o R ⊢ runs c (at0 (k0_part31 (F := F)) >>= kk) Q := by
  rw [k0_part31_eq_skeleton]
  unfold k0_part31_skel at0
  simp only [Prog.lift, Prog.bind_op, Prog.bind_ret, Prog.pure_eq_ret, Prog.bind_assoc]
  refine step (backStep W K c (6, 0) (w := 7) rfl rfl rfl) ?_
  refine step (backStep W K c (5, 1) (w := 8) rfl rfl rfl) ?_
  refine step (backStep W K c (6, 1) (w := 9) rfl rfl rfl) ?_
  refine step (backStep W K c (5, 2) (w := 10) rfl rfl rfl) ?_
  exact n

theorem part32 {Q : α → sProp 𝕄} {R : sProp 𝕄} {kk : _ → Prog (TpuEff nD τ sig (Elt F) Λ₀ .tc) α}
    (n : end_ X G I W K c 14 a o R ⊢ runs c (kk ⟨⟩) Q) : end_ X G I W K c 11 a o R ⊢ runs c (at0 (k0_part32 (F := F)) >>= kk) Q := by
  rw [k0_part32_eq_skeleton]
  unfold k0_part32_skel at0
  simp only [Prog.lift, Prog.bind_op, Prog.bind_ret, Prog.pure_eq_ret, Prog.bind_assoc]
  refine step (backStep W K c (6, 2) (w := 11) rfl rfl rfl) ?_
  refine step (backStep W K c (2, 0) (w := 12) rfl rfl rfl) ?_
  refine step (backStep W K c (3, 0) (w := 13) rfl rfl rfl) ?_
  exact n

theorem part33 {Q : α → sProp 𝕄} {R : sProp 𝕄} {kk : _ → Prog (TpuEff nD τ sig (Elt F) Λ₀ .tc) α}
    (n : end_ X G I W K c 18 a o R ⊢ runs c (kk ⟨⟩) Q) : end_ X G I W K c 14 a o R ⊢ runs c (at0 (k0_part33 (F := F)) >>= kk) Q := by
  rw [k0_part33_eq_skeleton]
  unfold k0_part33_skel at0
  simp only [Prog.lift, Prog.bind_op, Prog.bind_ret, Prog.pure_eq_ret, Prog.bind_assoc]
  refine step (backStep W K c (4, 0) (w := 14) rfl rfl rfl) ?_
  refine step (backStep W K c (2, 1) (w := 15) rfl rfl rfl) ?_
  refine step (backStep W K c (3, 1) (w := 16) rfl rfl rfl) ?_
  refine step (backStep W K c (4, 1) (w := 17) rfl rfl rfl) ?_
  exact n

/-! ## The slots whole again -/

/-- The three slots of a place at one share. -/
def place (k : Fin 8) (q : PosShare TreeShare) : sProp 𝕄 := bigSep Finset.univ fun p : Fin 3 => has W c k p q

theorem place_join (k : Fin 8) (n : ℕ) : iprop(place W c k (tok n) ∗ place W c k (rest (n + 1))) ⊢ place W c k (rest n) := by
  unfold place
  rw [← bigSep_sep']
  exact bigSep_mono fun p _ => (has_split W c k p n).2

/-- How many transfers read the slots of a place. -/
def reads : Fin 8 → ℕ := ![5, 1, 0, 0, 0, 0, 0, 1]

theorem stat_end : ∀ kp : Fin 8 × Fin 3, stat 3 21 21 kp = some (reads kp.1) := by decide +kernel

theorem held_end : held W c (stat 3 21 21) = bigSep Finset.univ fun k : Fin 8 => place W c k (rest (reads k)) := by
  unfold held place
  rw [← bigSep_univ_prod (fun kp : Fin 8 × Fin 3 => has W c kp.1 kp.2 (rest (reads kp.1)))]
  exact bigSep_congr fun kp _ => by rw [stat_end]; rfl

theorem back_end : (bigSep Finset.univ fun t : T => sndPay W c t) = bigSep Finset.univ fun r : Fin 7 => place W c (src r) (tok (ord r)) := by
  unfold place
  exact bigSep_univ_prod (fun t : T => sndPay W c t)

theorem whole_again : iprop(held W c (stat 3 21 21) ∗ bigSep Finset.univ fun t : T => sndPay W c t) ⊢ bufs (F := F) c := by
  have h : (bigSep Finset.univ fun k : Fin 8 => place W c k fullShare) ⊢ bigSep Finset.univ (any2 (F := F) c) := by
    unfold place
    rw [← bigSep_univ_prod (fun kp : Fin 8 × Fin 3 => has W c kp.1 kp.2 fullShare)]
    exact bigSep_mono fun kp _ => by
      show has W c kp.1 kp.2 fullShare ⊢ anyAt c kp.1 kp.2
      unfold has anyAt
      iintro H; iexists _; iexact H
  refine BIBase.Entails.trans ?_ (h.trans (bufs_slots c).2)
  rw [held_end, back_end, bigSep_univ_eq_bigSepL [0, 1, 2, 3, 4, 5, 6, 7] (by decide) (by decide) (fun k : Fin 8 => place W c k (rest (reads k))),
    bigSep_univ_eq_bigSepL [0, 1, 2, 3, 4, 5, 6, 7] (by decide) (by decide) (fun k : Fin 8 => place W c k fullShare),
    bigSep_univ_eq_bigSepL [0, 1, 2, 3, 4, 5, 6] (by decide) (by decide) (fun r : Fin 7 => place W c (src r) (tok (ord r)))]
  simp only [bigSepL_cons']
  show iprop((place W c 0 (rest 5) ∗ place W c 1 (rest 1) ∗ place W c 2 fullShare ∗ place W c 3 fullShare ∗ place W c 4 fullShare ∗ place W c 5 fullShare
      ∗ place W c 6 fullShare ∗ place W c 7 (rest 1) ∗ emp) ∗ place W c 0 (tok 0) ∗ place W c 0 (tok 1) ∗ place W c 0 (tok 2) ∗ place W c 0 (tok 3)
      ∗ place W c 0 (tok 4) ∗ place W c 7 (tok 0) ∗ place W c 1 (tok 0) ∗ emp)
    ⊢ iprop(place W c 0 (rest 0) ∗ place W c 1 (rest 0) ∗ place W c 2 fullShare ∗ place W c 3 fullShare ∗ place W c 4 fullShare ∗ place W c 5 fullShare
      ∗ place W c 6 fullShare ∗ place W c 7 (rest 0) ∗ emp)
  iintro ⟨⟨H0, H1, H2, H3, H4, H5, H6, H7, -⟩, T0, T1, T2, T3, T4, T7, T1', -⟩
  isplitl [H0 T0 T1 T2 T3 T4]
  · iapply (place_join W c 0 0); isplitl [T0]; · iexact T0
    iapply (place_join W c 0 1); isplitl [T1]; · iexact T1
    iapply (place_join W c 0 2); isplitl [T2]; · iexact T2
    iapply (place_join W c 0 3); isplitl [T3]; · iexact T3
    iapply (place_join W c 0 4); isplitl [T4]; · iexact T4
    iexact H0
  isplitl [H1 T1']
  · iapply (place_join W c 1 0); isplitl [T1']; · iexact T1'
    iexact H1
  isplitl [H2]; · iexact H2
  isplitl [H3]; · iexact H3
  isplitl [H4]; · iexact H4
  isplitl [H5]; · iexact H5
  isplitl [H6]; · iexact H6
  isplitl [H7 T7]
  · iapply (place_join W c 7 0); isplitl [T7]; · iexact T7
    iexact H7
  iempintro

/-- The end: nothing is owed, every send cell is at zero and closed, the buffers are whole. -/
theorem atEnd : iprop(back W c 21 ∗ held W c (stat 3 21 21))
    ⊢ (iprop(owing c 0 ∗ (bigSep Finset.univ fun t : T => semVal (sndC c t) 0) ∗ bufs (F := F) c) : sProp 𝕄) := by
  have e : (bigSepL (backs.take 21) fun t => (iprop(semVal (sndC c t) 0 ∗ sndPay W c t) : sProp 𝕄))
      = iprop((bigSep Finset.univ fun t : T => semVal (sndC c t) 0) ∗ bigSep Finset.univ fun t : T => sndPay W c t) := by
    rw [← bigSep_sep']
    exact (bigSep_univ_eq_bigSepL backs backs_univ.1 backs_univ.2 _).symm
  unfold back
  rw [e]
  iintro ⟨⟨HO, -, HZ, HP⟩, HH⟩
  isplitl [HO]; · iexact HO
  isplitl [HZ]; · iexact HZ
  iapply (whole_again W c); isplitl [HH]; · iexact HH
  iexact HP

end Part

end Cert.Moe

end
-- ==== Proof.Body.lean ====
/-
# `Body`: the body of one device, run from the handshake to its end

The accumulator after each group of experts, what the device stores, and the whole run put together.
-/
module

public import proofs.«01_k».proof.Proof.Parts3

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → (cc0_stg0_0 : Ref sig .tc).ty.Contents (Elt F)) (G : Dev nD → (cc0_stg1_0 : Ref sig .tc).ty.Contents (Elt F))
  (I : Dev nD → (cc0_stg2_0 : Ref sig .tc).ty.Contents (Elt F)) (W : Dev nD → (cc0_stg3_0 : Ref sig .tc).ty.Contents (Elt F))
variable (K : Dev nD × Cel → ℕ)

/-! ## What a device computes -/

section Values

variable (c : Dev nD)

/-- The rows of tokens; the gates. -/
abbrev toks_ : FVec F S512x256 .bf16 := k0_pay10 (X c)
def gates : FVec F S512x16 .f32 := k0_pay13 (k0_pay11 (X c) (G c)) (k0_pay12 (X c) (G c)) (col0 (I c)) (col1 (I c))

/-- The accumulator after the device's own experts, -/
def accA : FVec F S512x512 .f32 :=
  k0_pay15 (word2 c) (toks_ X c) cols (gates X G I c)
    (k0_pay14 (word2 c) (toks_ X c) (k0_pay11 (X c) (G c)) (k0_pay12 (X c) (G c)) (col0 (I c)) (col1 (I c)) (tile 0 (W (fwd 0 c))) (row 0 (W (fwd 0 c))))
    (tile 1 (W (fwd 0 c))) (row 1 (W (fwd 0 c)))
/-- after those one step away, -/
def accB : FVec F S512x512 .f32 :=
  k0_pay18 (toks_ X c) cols (gates X G I c) (word401 (word2 c))
    (k0_pay17 (toks_ X c) cols (gates X G I c) (word398 (word2 c)) (word401 (word2 c))
      (k0_pay16 (word2 c) (toks_ X c) cols (gates X G I c) (tile 0 (W (fwd 7 c))) (row 0 (W (fwd 7 c))))
      (tile 0 (W (fwd 1 c))) (row 0 (W (fwd 1 c))) (tile 1 (W (fwd 7 c))) (row 1 (W (fwd 7 c))))
    (tile 1 (W (fwd 1 c))) (row 1 (W (fwd 1 c))) (accA X G I W c)
/-- after those four steps away, -/
def accC : FVec F S512x512 .f32 :=
  k0_pay21 (word9 c) (toks_ X c) cols (gates X G I c)
    (k0_pay20 (word9 c) (toks_ X c) cols (gates X G I c) k0_pay19 (flat 0 (W (fwd 4 c))) (flatRow0 (W (fwd 4 c))))
    (flat 1 (W (fwd 4 c))) (flatRow1 (W (fwd 4 c))) (accB X G I W c)
/-- after those five steps on, -/
def accD : FVec F S512x512 .f32 :=
  k0_pay24 (word14 c) (toks_ X c) cols (gates X G I c)
    (k0_pay23 (word14 c) (toks_ X c) cols (gates X G I c) k0_pay22 (flat 0 (W (fwd 5 c))) (flatRow0 (W (fwd 5 c))))
    (flat 1 (W (fwd 5 c))) (flatRow1 (W (fwd 5 c))) (accC X G I W c)
/-- after those three steps on, -/
def accE : FVec F S512x512 .f32 :=
  k0_pay27 (word11 c) (toks_ X c) cols (gates X G I c)
    (k0_pay26 (word11 c) (toks_ X c) cols (gates X G I c) k0_pay25 (flat 0 (W (fwd 3 c))) (flatRow0 (W (fwd 3 c))))
    (flat 1 (W (fwd 3 c))) (flatRow1 (W (fwd 3 c))) (accD X G I W c)
/-- and after those two steps away: all of them. -/
def accF : FVec F S512x512 .f32 :=
  k0_pay34 (toks_ X c) cols (gates X G I c)
    (k0_pay31 (toks_ X c) cols (gates X G I c) (Scalar.remsi (word726 (word2 c)) 8#32)
      (k0_pay28 (toks_ X c) cols (gates X G I c) (word726 (word2 c)) (tile 0 (W (fwd 6 c))) (row 0 (W (fwd 6 c))))
      (Scalar.addi (Scalar.muli (word730 (word2 c)) 2#32) 0#32) (k0_pay29 (toks_ X c) (tile 0 (W (fwd 2 c)))) (k0_pay30 (row 0 (W (fwd 2 c))))
      (tile 1 (W (fwd 6 c))) (row 1 (W (fwd 6 c))))
    (k0_pay32 (row 1 (W (fwd 2 c)))) (Scalar.addi (Scalar.muli (word730 (word2 c)) 2#32) 1#32) (k0_pay33 (tile 1 (W (fwd 2 c))))
    (constant S512x512 .f32 0x00000000#32) (accE X G I W c)
/-- What the device stores. -/
def outAt : FVec F S512x512 .bf16 := k0_pay35 (accF X G I W c)

end Values

section Run

variable (c : Dev nD) {α : Type} {a : (cc0_scratch0 : Ref sig .tc).ty.Contents (Elt F)} {o : (cc0_stg4_0 : Ref sig .tc).ty.Contents (Elt F)}

/-- What the exchange hands to its end besides the slots. -/
abbrev over : sProp 𝕄 := iprop((bigSep Finset.univ fun t : T => closedR (F := F) c t) ∗ held W c (stat 3 21 21) ∗ semVal (barC c) 0)

theorem turn {Y : sProp 𝕄}
    (n : end_ X G I W K c 0 a o (over W c) ⊢ Y) :
    at_ X G I W K c 3 21 21 a o iprop(semVal (barC c) 0 ∗ bigSep Finset.univ fun t : T => atPos EX (sndC c t) 0 ∅ 0) ⊢ Y := by
  refine BIBase.Entails.trans ?_ n
  iintro ⟨Hc, HN, HM, HZ, HA⟩
  ihave H := (toEnd W c) $$ [HN HA]
  · isplitl [HN] <;> iassumption
  icases H with ⟨HB, HR, HH⟩
  isplitl [Hc]; · iexact Hc
  isplitl [HB]; · iexact HB
  isplitl [HM]; · iexact HM
  isplitl [HR]; · iexact HR
  isplitl [HH]; · iexact HH
  iexact HZ

set_option maxRecDepth 65536 in
theorem part34 {Q : α → sProp 𝕄} {kk : _ → Prog (TpuEff nD τ sig (Elt F) Λ₀ .tc) α}
    (n : end_ X G I W K c 20 (accF X G I W c) (outAt X G I W c) (over W c) ⊢ runs c (kk ⟨⟩) Q) :
    iprop(ctx W K ∗ hail c 0 ∗ toMeet c ∗ mem X G I W c a o ∗ bigSep Finset.univ fun t : T => atPos EX (sndC c t) 0 ∅ 0)
      ⊢ runs c (at0 (k0_part34 (F := F)) >>= kk) Q := by
  rw [k0_part34_eq_skeleton]
  unfold k0_part34_skel at0
  simp only [Prog.lift, Prog.bind_op, Prog.bind_ret, Prog.pure_eq_ret, Prog.bind_assoc]
  refine part1 W K c ?_
  refine part2 X G I W K c _ fun v1 v2 => ?_
  refine part3 X G I W K c _ _ ?_
  refine part4 X G I W K c _ _ ?_
  refine part5 X G I W K c _ _ ?_
  refine part6 X G I W K c _ _ ?_
  refine part7 X G I W K c _ _ _ ?_
  refine part8 X G I W K c _ _ _ ?_
  refine part9 X G I W K c _ _ _ _ ?_
  refine part10 X G I W K c _ _ _ _ _ _ ?_
  refine part11 X G I W K c _ _ _ ?_
  refine part12 X G I W K c _ _ ?_
  refine part13 X G I W K c _ _ ?_
  refine part14 X G I W K c _ _ ?_
  refine part15 X G I W K c _ _ _ _ ?_
  refine part16 X G I W K c _ _ _ _ _ _ _ ?_
  refine part17 X G I W K c _ _ _ _ _ _ ?_
  refine part18 X G I W K c _ _ _ _ _ _ ?_
  refine part19 X G I W K c _ _ _ _ _ _ ?_
  refine part20 X G I W K c _ _ _ _ _ _ ?_
  refine part21 X G I W K c _ _ _ _ _ ?_
  refine part22 X G I W K c _ _ _ _ _ _ ?_
  refine part23 X G I W K c _ _ _ _ _ _ ?_
  refine part24 X G I W K c _ _ ?_
  refine part25 X G I W K c _ _ _ ?_
  refine part26 X G I W K c _ _ _ _ _ ?_
  refine part27 X G I W K c _ _ _ _ _ _ _ _ _ ?_
  refine turn X G I W K c ?_
  refine part28 X G I W K c _ _ _ _ _ _ _ _ ?_
  refine part29 X G I W K c ?_
  refine part30 X G I W K c ?_
  refine part31 X G I W K c ?_
  refine part32 X G I W K c ?_
  refine part33 X G I W K c ?_
  refine step (backStep W K c (2, 2) (w := 18) rfl rfl rfl) ?_
  refine step (backStep W K c (3, 2) (w := 19) rfl rfl rfl) ?_
  exact n

/-- What a device's run leaves. -/
def left (c : Dev nD) : sProp 𝕄 :=
  iprop(owing c 0 ∗ (bigSep Finset.univ fun t : T => semVal (sndC c t) 0) ∗ (bigSep Finset.univ fun t : T => closedR (F := F) c t) ∗ semVal (barC c) 0
    ∗ bufs (F := F) c ∗ mem X G I W c (accF X G I W c) (outAt X G I W c))

theorem leave {Y : sProp 𝕄} (n : left X G I W c ⊢ Y) : end_ X G I W K c 21 (accF X G I W c) (outAt X G I W c) (over W c) ⊢ Y := by
  refine BIBase.Entails.trans ?_ n
  unfold left
  iintro ⟨-, HB, HM, HR, HH, HZ⟩
  ihave H := (atEnd W c) $$ [HB HH]
  · isplitl [HB] <;> iassumption
  icases H with ⟨HO, HS, Hb⟩
  isplitl [HO]; · iexact HO
  isplitl [HS]; · iexact HS
  isplitl [HR]; · iexact HR
  isplitl [HZ]; · iexact HZ
  isplitl [Hb]; · iexact Hb
  iexact HM

set_option maxRecDepth 65536 in
theorem bodyAt (t : Fin cfg0.N) : bodyAt0 (F := F) t = at0 (cc0_body (F := F)) := by rw [fin_N0 t]

set_option maxRecDepth 65536 in
theorem body_run (t : Fin cfg0.N) {Q : PUnit → sProp 𝕄} (n : left X G I W c ⊢ Q ⟨⟩) :
    iprop(ctx W K ∗ hail c 0 ∗ toMeet c ∗ mem X G I W c a o ∗ bigSep Finset.univ fun t : T => atPos EX (sndC c t) 0 ∅ 0)
      ⊢ runs c (bodyAt0 (F := F) t) Q := by
  rw [bodyAt, cc0_body_eq_skeleton]
  unfold cc0_body_skel at0
  simp only [Prog.lift, Prog.bind_op, Prog.bind_ret, Prog.pure_eq_ret, Prog.bind_assoc]
  refine part34 X G I W K c ?_
  refine step (backStep W K c (4, 2) (w := 20) rfl rfl rfl) ?_
  refine BIBase.Entails.trans ?_ fupd_intro
  exact leave X G I W K c n

end Run

end Cert.Moe

end
-- ==== Proof.Deal.lean ====
/-
# `Deal`: what every device starts with

The tokens of the duties, minted at the cells they belong to, go to the devices that pay them; the credits of a device's
cells are what all devices together owe them; and a device's landing places go into the payloads of its five signals.
-/
module

public import proofs.«01_k».proof.Proof.Body
public import Idealize.ShloMosaic.Lib.Pipeline.Launch
public import Idealize.ShloMosaic.Lib.Pipeline.Kit

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Products over sums and options -/

theorem over_sum {A B : Type} [Fintype A] [Fintype B] [DecidableEq A] [DecidableEq B] (Φ : A ⊕ B → sProp 𝕄) :
    bigSep Finset.univ Φ = iprop((bigSep Finset.univ fun a => Φ (.inl a)) ∗ bigSep Finset.univ fun b => Φ (.inr b)) := by
  rw [show (Finset.univ : Finset (A ⊕ B)) = Finset.univ.map .inl ∪ Finset.univ.map .inr from by ext (a | b) <;> simp,
    bigSep_union (by rw [Finset.disjoint_left]; rintro (a | b) <;> simp), bigSep_map, bigSep_map]
  rfl
theorem over_option {A : Type} [Fintype A] [DecidableEq A] (Φ : Option A → sProp 𝕄) :
    bigSep Finset.univ Φ = iprop(Φ none ∗ bigSep Finset.univ fun a => Φ (some a)) := by
  rw [bigSep_univ_at _ (none : Option A), show (Finset.univ : Finset (Option A)).erase none = Finset.univ.map .some from by ext (_ | a) <;> simp, bigSep_map]
  rfl
theorem over_bool {A : Type} [Fintype A] [DecidableEq A] (Φ : A × Bool → sProp 𝕄) :
    bigSep Finset.univ Φ = iprop((bigSep Finset.univ fun a => Φ (a, false)) ∗ bigSep Finset.univ fun a => Φ (a, true)) := by
  rw [bigSep_univ_prod, ← bigSep_sep']
  exact bigSep_congr fun a _ => bigSep_univ_eq_bigSepL [false, true] (by decide) (by decide) _
theorem over_cells (Φ : Cel → sProp 𝕄) :
    bigSep Finset.univ Φ = iprop(Φ none ∗ (bigSep Finset.univ fun t : T => Φ (some (t, false))) ∗ bigSep Finset.univ fun t : T => Φ (some (t, true))) := by
  rw [over_option, over_bool]

/-! ## The tokens -/

/-- The duties of a device's cells: five of its barrier cell, one of each transfer cell. -/
abbrev Duty : Type := Fin 5 ⊕ (T × Bool)
def tokOf (cj : Dev nD × Duty) : GSem nD τ sig × ℕ × Fin 5 := match cj.2 with
  | .inl f => (barC cj.1, 0, f)
  | .inr x => (kcell (cj.1, some x), 0, 0)
theorem tokOf_injective : Function.Injective tokOf := by
  rintro ⟨c, f | x⟩ ⟨c', f' | x'⟩ h
  · have h1 := kcell_injective (congrArg Prod.fst h)
    have h2 : f = f' := congrArg (fun x : GSem nD τ sig × ℕ × Fin 5 => x.2.2) h
    have h3 := (Prod.mk.inj h1).1
    dsimp only at h3
    subst h2 h3; rfl
  · have h1 := kcell_injective (congrArg Prod.fst h)
    cases (Prod.mk.inj h1).2
  · have h1 := kcell_injective (congrArg Prod.fst h)
    cases (Prod.mk.inj h1).2
  · have h1 := kcell_injective (congrArg Prod.fst h)
    have h2 := Option.some.inj (Prod.mk.inj h1).2
    have h3 := (Prod.mk.inj h1).1
    dsimp only at h3
    subst h2 h3; rfl

def allCells : Finset (GSem nD τ sig) := Finset.univ.map ⟨kcell, kcell_injective⟩
def allToks : Finset (GSem nD τ sig × ℕ × Fin 5) := Finset.univ.map ⟨tokOf, tokOf_injective⟩

/-- The tokens of the duties of device `c`'s cells, -/
def ownToks (c : Dev nD) : sProp 𝕄 :=
  iprop((bigSep Finset.univ fun f : Fin 5 => dutyTok EX (barC c) 0 f) ∗ bigSep Finset.univ fun x : T × Bool => dutyTok EX (kcell (c, some x)) 0 0)
/-- and of the duties device `c` pays. -/
def payToks (c : Dev nD) : sProp 𝕄 :=
  iprop((bigSep Finset.univ fun f : Fin 5 => dutyTok EX (barC (pv (fr f) c)) 0 f) ∗ bigSep Finset.univ fun t : T => toks (F := F) c t)

/-- One token family dealt along a ring that depends on the duty. -/
theorem around {A : Type} [Fintype A] [DecidableEq A] (e : A → Dev nD ≃ Dev nD) (Φ : Dev nD → A → sProp 𝕄) :
    (bigSep Finset.univ fun c => bigSep Finset.univ fun a => Φ c a) = bigSep Finset.univ fun c => bigSep Finset.univ fun a => Φ (e a c) a := by
  rw [← bigSep_univ_prod (fun ca : Dev nD × A => Φ ca.1 ca.2), ← bigSep_univ_prod (fun ca : Dev nD × A => Φ (e ca.2 ca.1) ca.2)]
  exact bigSep_univ_equiv (⟨fun ca => (e ca.2 ca.1, ca.2), fun ca => ((e ca.2).symm ca.1, ca.2), fun ca => by simp, fun ca => by simp⟩ : Dev nD × A ≃ Dev nD × A) _

theorem toks_around : (bigSep Finset.univ fun c : Dev nD => ownToks (F := F) c) = bigSep Finset.univ fun c : Dev nD => payToks (F := F) c := by
  unfold ownToks payToks toks
  simp only [over_bool, bigSep_sep']
  rw [around (F := F) (fun f => (ring (fr f)).symm) (fun c f => dutyTok EX (barC c) 0 f), around (F := F) (fun t : T => ring t.1) (fun c t => dutyTok EX (rcvC c t) 0 0)]
  rfl

/-! ## The credits -/

theorem nb_eq (r : Fin 7) (d c : Dev nD) : nb r d = c ↔ d = pv r c :=
  ⟨fun h => by rw [← h, pv_nb], fun h => by rw [h, nb_pv]⟩
theorem bar_ne_rcv (a b : Dev nD) (t : T) : barC a ≠ rcvC b t := fun h => by cases (Prod.mk.inj (kcell_injective h)).2
theorem rcv_eq (a b : Dev nD) (t t' : T) : rcvC a t = rcvC b t' ↔ a = b ∧ t = t' :=
  ⟨fun h => ⟨(Prod.mk.inj (kcell_injective h)).1, (Prod.mk.inj (Option.some.inj (Prod.mk.inj (kcell_injective h)).2)).1⟩, fun h => by rw [h.1, h.2]⟩
theorem bar_eq (a b : Dev nD) : barC a = barC b ↔ a = b :=
  ⟨fun h => (Prod.mk.inj (kcell_injective h)).1, fun h => by rw [h]⟩

theorem owT_rcv (d c : Dev nD) (t : T) : ∀ ts : List T, ts.Nodup → owT d ts (rcvC c t) () = if t ∈ ts ∧ d = pv t.1 c then amt t.2 else 0
  | [], _ => by rw [if_neg (fun h => absurd h.1 List.not_mem_nil)]; rfl
  | t' :: ts, h => by
    unfold owT
    rw [Pi.add_apply, Finsupp.add_apply, owT_rcv d c t ts (List.nodup_cons.mp h).2, tallyAt_apply]
    by_cases e : t = t'
    · subst e
      rw [if_neg (fun k => (List.nodup_cons.mp h).1 k.1), Nat.zero_add]
      by_cases k : d = pv t.1 c
      · rw [if_pos ⟨by rw [rcv_eq]; exact ⟨((nb_eq t.1 d c).mpr k).symm, rfl⟩, rfl⟩, if_pos ⟨List.mem_cons_self, k⟩]
      · rw [if_neg (fun q => k ((nb_eq t.1 d c).mp ((rcv_eq _ _ _ _).mp q.1).1.symm)), if_neg (fun q => k q.2)]
    · rw [if_neg (c := rcvC c t = _ ∧ _) (fun q => e ((rcv_eq _ _ _ _).mp q.1).2), Nat.add_zero]
      simp [e]
theorem owT_bar (d c : Dev nD) : ∀ ts : List T, owT d ts (barC c) () = 0
  | [] => rfl
  | t :: ts => by
    unfold owT
    rw [Pi.add_apply, Finsupp.add_apply, owT_bar d c ts, tallyAt_apply, if_neg (fun q => bar_ne_rcv _ _ _ q.1)]
theorem owB_rcv (d c : Dev nD) (t : T) (ts : List T) : ∀ fs : List (Fin 5), owB d ts fs (rcvC c t) () = owT d ts (rcvC c t) ()
  | [] => rfl
  | f :: fs => by
    unfold owB
    rw [Pi.add_apply, Finsupp.add_apply, owB_rcv d c t ts fs, tallyAt_apply, if_neg (fun q => bar_ne_rcv _ _ _ q.1.symm), Nat.add_zero]
theorem owB_bar (d c : Dev nD) (ts : List T) : ∀ fs : List (Fin 5), owB d ts fs (barC c) () = (fs.map fun f => if c = pv (fr f) d then 1 else 0).sum
  | [] => owT_bar d c ts
  | f :: fs => by
    unfold owB
    rw [Pi.add_apply, Finsupp.add_apply, owB_bar d c ts fs, tallyAt_apply, List.map_cons, List.sum_cons, Nat.add_comm]
    simp only [bar_eq, and_true]

/-- What device `c` owes at its start. -/
def O₀ (c : Dev nD) : CellTallies nD τ sig Unit := owB c sends hails

theorem O₀_rcv (d c : Dev nD) (t : T) : O₀ d (rcvC c t) () = if d = pv t.1 c then amt t.2 else 0 := by
  have ht : t ∈ sends := by have := Finset.mem_univ t; rw [sends_univ.1] at this; exact List.mem_toFinset.mp this
  refine ((owB_rcv d c t sends hails).trans (owT_rcv d c t sends sends_univ.2)).trans ?_
  simp only [ht, true_and]
theorem O₀_bar (d c : Dev nD) : O₀ d (barC c) () = (hails.map fun f => if c = pv (fr f) d then 1 else 0).sum := owB_bar d c sends hails

theorem launch_rcv (c : Dev nD) (t : T) :
    tallyOn (rcvC c t) (launchCredit (Pipeline.owing O₀) 0 (rcvC c t)) = (tallyAt (rcvC c t) () (amt t.2) : CellTallies nD τ sig Unit) := by
  unfold tallyAt; refine congrArg _ (Finsupp.ext fun u => ?_); cases u
  rw [Pipeline.launchCredit_owing, Finsupp.single_eq_same, Finset.sum_congr rfl fun d _ => O₀_rcv d c t,
    Finset.sum_ite_eq' Finset.univ (pv t.1 c) fun _ => amt t.2, if_pos (Finset.mem_univ _)]
theorem launch_bar (c : Dev nD) :
    tallyOn (barC c) (launchCredit (Pipeline.owing O₀) 0 (barC c)) = (tallyAt (barC c) () 5 : CellTallies nD τ sig Unit) := by
  unfold tallyAt; refine congrArg _ (Finsupp.ext fun u => ?_); cases u
  rw [Pipeline.launchCredit_owing, Finsupp.single_eq_same, Finset.sum_congr rfl fun d _ => O₀_bar d c]
  revert c; decide +kernel

/-- The credits a device starts with. -/
def credits (c : Dev nD) : sProp 𝕄 := iprop(cred (tallyAt (barC c) () 5) ∗ bigSep Finset.univ fun t : T => cred (tallyAt (rcvC c t) () (amt t.2)))

def heard : Option T ↪ SemLoc sig := ⟨fun o => csem (o.map fun t => (t, true)), csem_inj.comp (Option.map_injective fun a b h => (Prod.mk.inj h).1)⟩

theorem creds (c : Dev nD) : (Pipeline.launchCred O₀ c : sProp 𝕄) ⊢ credits c := by
  unfold Pipeline.launchCred credits
  refine BIBase.Entails.trans (bigSep_subset (Finset.subset_univ (Finset.univ.map heard))) (Entails.of_eq ?_)
  rw [bigSep_map, over_option]
  refine congrArg₂ _ (congrArg cred (launch_bar c)) (bigSep_congr fun t _ => congrArg cred (launch_rcv c t))

/-! ## The places -/

def mine : Fin 3 ↪ Fin 8 × Fin 3 := ⟨fun p => (0, p), by decide +kernel⟩
def theirs : T ↪ Fin 8 × Fin 3 := ⟨fun t => (dst t.1, t.2), by decide +kernel⟩

theorem places (c : Dev nD) : bufs (F := F) c ⊢ iprop((anyAt c 0 0 ∗ anyAt c 0 1 ∗ anyAt c 0 2) ∗ bigSep Finset.univ fun t : T => anyAt (F := F) c (dst t.1) t.2) := by
  refine (bufs_slots c).1.trans (Entails.of_eq ?_)
  rw [show (Finset.univ : Finset (Fin 8 × Fin 3)) = Finset.univ.map mine ∪ Finset.univ.map theirs from by decide +kernel,
    bigSep_union (by decide +kernel), bigSep_map, bigSep_map, bigSep_univ_eq_bigSepL (I := Fin 3) [0, 1, 2] (by decide) (by decide)]
  rfl

theorem handed (c : Dev nD) : (bigSep Finset.univ fun t : T => anyAt (F := F) c (dst t.1) t.2) = bigSep Finset.univ fun f : Fin 5 => barPay (F := F) (pv (fr f) c) f := by
  unfold barPay
  rw [bigSep_congr (Ψ := fun f : Fin 5 => bigSep (Finset.univ.filter fun t : T => fam t.1 = f) fun t => anyAt (F := F) c (dst t.1) t.2) fun f _ =>
    bigSep_congr fun t h => by
      unfold land
      rw [← nb_fam, (Finset.mem_filter.mp h).2, nb_pv]]
  have h : (Finset.univ : Finset T).image (fun t => fam t.1) = Finset.univ := by decide +kernel
  rw [← h]
  exact bigSep_fiberwise Finset.univ (fun t : T => fam t.1) (fun t => anyAt (F := F) c (dst t.1) t.2)

theorem hailed (c : Dev nD) :
    iprop((bigSep Finset.univ fun f : Fin 5 => dutyTok EX (barC (pv (fr f) c)) 0 f) ∗ bigSep Finset.univ fun t : T => anyAt (F := F) c (dst t.1) t.2)
      = bigSepL hails (toHail (F := F) c) := by
  rw [handed, ← bigSep_sep', ← bigSep_univ_eq_bigSepL hails hails_univ.1 hails_univ.2 (toHail (F := F) c)]
  rfl

end Cert.Moe

end
-- ==== Proof.Launch.lean ====
/-
# `Launch`: the run of the kernel on all devices

From any memory with zero counters every weakly fair run of the kernel on its eight devices ends, with each device's
result array at the contents `outAt` names, the arguments unchanged and every counter at zero.
-/
module

public import proofs.«01_k».proof.Proof.Deal
public import Idealize.ShloMosaic.Lib.Pipeline.CollectiveSegs

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The staged arguments -/

def s₀ : MemSt nD τ sig (Elt F) := ⟨m, fun _ => 0, ρ⟩

def X (c : Dev nD) : (cc0_stg0_0 : Ref sig .tc).ty.Contents (Elt F) := (win0_0.blk (0 : Fin 1)).view.read (Elt F) (m ((c : Thread nD τ).loc main_arg0))
def G (c : Dev nD) : (cc0_stg1_0 : Ref sig .tc).ty.Contents (Elt F) := (win0_1.blk (0 : Fin 1)).view.read (Elt F) (m ((c : Thread nD τ).loc main_arg1))
def I (c : Dev nD) : (cc0_stg2_0 : Ref sig .tc).ty.Contents (Elt F) := (win0_2.blk (0 : Fin 1)).view.read (Elt F) (m ((c : Thread nD τ).loc main_arg2))
def W (c : Dev nD) : (cc0_stg3_0 : Ref sig .tc).ty.Contents (Elt F) := (win0_3.blk (0 : Fin 1)).view.read (Elt F) (m ((c : Thread nD τ).loc main_arg3))
/-- What device `c` stores. -/
def out (c : Dev nD) : (cc0_stg4_0 : Ref sig .tc).ty.Contents (Elt F) := outAt (X m) (G m) (I m) (W m) c

/-! ## The kernel's semaphores -/

abbrev osem : T × Bool → SemLoc sig := fun x => csem (some x)

theorem ownSemFacts : Pipeline.OwnSemFacts cfg0.spec osem where
  isScoped := by decide +kernel
  inj := fun a b h => Option.some.inj (csem_inj h)
  disj := by decide +kernel

theorem unscoped_eq (c : Dev nD) : (unscopedSems0 c : sProp 𝕄) = semVal (barC c) 0 := by
  unfold unscopedSems0; rw [bigSep_eq_bigSepL_of_eq [SemLoc.reg barS] (by decide +kernel) (by decide +kernel)]; rfl
theorem own_eq (c : Dev nD) : (Pipeline.ownSems0 (Ix := Unit) (Name := ℕ) (U := UU) (Lvl := ℕ) (Val := Elt F) (τ := τ) osem c : sProp 𝕄)
    = iprop((bigSep Finset.univ fun t : T => semVal (sndC c t) 0) ∗ bigSep Finset.univ fun t : T => semVal (rcvC c t) 0) := by
  unfold Pipeline.ownSems0; rw [over_bool]
theorem sems_eq (c : Dev nD) :
    iprop(Pipeline.ownSems0 (Ix := Unit) (Name := ℕ) (U := UU) (Lvl := ℕ) (Val := Elt F) (τ := τ) osem c ∗ unscopedSems0 c)
      ⊢ (bigSep Finset.univ fun k : Cel => semVal (kcell (c, k)) 0 : sProp 𝕄) := by
  rw [own_eq, unscoped_eq, over_cells]
  iintro ⟨⟨HS, HV⟩, HB⟩
  isplitl [HB]; · iexact HB
  isplitl [HS] <;> iassumption

/-! ## Minting and dealing -/

def u₀ : UU := (initOf (Pipeline.cells cfgs cellOf_inj) (Pipeline.launchToks cfgs cellOf_inj), initOf allCells allToks)

/-- What is minted for device `c`, -/
def minted (c : Dev nD) : sProp 𝕄 :=
  iprop((bigSep Finset.univ fun k : Cel => roundState EX (Sch (W m)) (kcell (c, k)) 0)
    ∗ (bigSep Finset.univ fun k : Cel => iprop(atPos EX (kcell (c, k)) 0 ∅ 0 ∗ reached EX (kcell (c, k)) 0)) ∗ ownToks c)
/-- what it keeps to itself, -/
def linear (c : Dev nD) : sProp 𝕄 := iprop((bigSep Finset.univ fun k : Cel => atPos EX (kcell (c, k)) 0 ∅ 0) ∗ payToks c)
/-- and what it is dealt. -/
def dealt (c : Dev nD) : sProp 𝕄 := iprop(∃ K, recs (W m) K ∗ linear c)

theorem fund : BI.own (EX (initOf allCells allToks)) ⊢ (|==> bigSep Finset.univ (minted m) : sProp 𝕄) := by
  have hX (Φ : GSem nD τ sig → sProp 𝕄) : bigSep allCells Φ = bigSep Finset.univ fun c : Dev nD => bigSep Finset.univ fun k : Cel => Φ (kcell (c, k)) := by
    unfold allCells; rw [bigSep_map, bigSep_univ_prod]; rfl
  have hT : bigSep allToks (fun x => (dutyTok EX x.1 x.2.1 x.2.2 : sProp 𝕄)) = bigSep Finset.univ fun c : Dev nD => ownToks c := by
    unfold allToks; rw [bigSep_map, bigSep_univ_prod]
    exact bigSep_congr fun c _ => by unfold ownToks; rw [over_sum]; rfl
  iintro HX
  imod (Rounds.fund EX (Sch (W m)) allCells allToks) $$ HX with ⟨Hst, Hr, Hat, Htok⟩
  imodintro
  ihave Hst' := (Entails.of_eq (hX fun g => roundState EX (Sch (W m)) g 0)) $$ Hst
  ihave Hat' := (Entails.of_eq (hX fun g => atPos EX g 0 ∅ 0)) $$ Hat
  ihave Hr' := (Entails.of_eq (hX fun g => reached EX g 0)) $$ Hr
  ihave Htok' := (Entails.of_eq hT) $$ Htok
  unfold minted; simp only [bigSep_sep']
  isplitl [Hst']; · iexact Hst'
  isplitl [Hat' Hr']
  · isplitl [Hat'] <;> iassumption
  iexact Htok'

theorem core_alloc (c : Dev nD) :
    iprop(Pipeline.ownSems0 (Ix := Unit) (Name := ℕ) (U := UU) (Lvl := ℕ) (Val := Elt F) (τ := τ) osem c ∗ unscopedSems0 c ∗ minted m c)
      ⊢ |={Set.univ}=> iprop((bigSep Finset.univ fun k => iprop(∃ κ : ℕ, cellInv EX (Sch (W m)) κ (kcell (c, k))))
          ∗ (bigSep Finset.univ fun k => iprop(atPos EX (kcell (c, k)) 0 ∅ 0 ∗ reached EX (kcell (c, k)) 0)) ∗ ownToks c) := by
  unfold minted
  iintro ⟨Hos, Hus, Hst, Hat, Htok⟩
  ihave Hv := (sems_eq (F := F) c) $$ [Hos Hus]
  · isplitl [Hos] <;> iassumption
  imod (show iprop((bigSep Finset.univ fun k : Cel => semVal (kcell (c, k)) 0) ∗ bigSep Finset.univ fun k : Cel => roundState EX (Sch (W m)) (kcell (c, k)) 0)
      ⊢ (|={Set.univ}=> bigSep Finset.univ fun k => iprop(∃ κ : ℕ, cellInv EX (Sch (W m)) κ (kcell (c, k))) : sProp 𝕄) from by
        rw [← bigSep_sep']
        exact (bigSep_mono fun k _ => (Rounds.body_intro EX (Sch (W m)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem dealt_intro (K : Dev nD × Cel → ℕ) (c : Dev nD) : iprop(recs (W m) K ∗ linear c) ⊢ dealt m c := by
  unfold dealt
  iintro H
  iexists K; iexact H

theorem with_persistent {J : Type} [DecidableEq J] {S : Finset J} {R : sProp 𝕄} [BI.Persistent R] {Φ Ψ : J → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv EX (Sch (W m)) κ (kcell (c, k))))
          ∗ (bigSep Finset.univ fun k => iprop(atPos EX (kcell (c, k)) 0 ∅ 0 ∗ reached EX (kcell (c, k)) 0)) ∗ ownToks c) : sProp 𝕄)
      ⊢ bigSep Finset.univ (dealt m) := by
  rw [bigSep_sep', bigSep_sep', ← bigSep_univ_prod (fun ck : Dev nD × Cel => iprop(∃ κ : ℕ, cellInv EX (Sch (W m)) κ (kcell ck))),
    bigSep_congr (s := Finset.univ) (fun (c : Dev nD) _ => bigSep_sep' Finset.univ (fun k : Cel => (atPos EX (kcell (c, k)) 0 ∅ 0 : sProp 𝕄)) (fun k => reached EX (kcell (c, k)) 0)),
    bigSep_sep', ← bigSep_univ_prod (fun ck : Dev nD × Cel => (reached EX (kcell ck) 0 : sProp 𝕄))]
  iintro ⟨HI, ⟨Hat, #HR⟩, Htok⟩
  ihave HK := (BI.bigSep_exists_pi Finset.univ (fun (ck : Dev nD × Cel) (κ : ℕ) => (cellInv EX (Sch (W m)) κ (kcell ck) : sProp 𝕄))) $$ HI
  icases HK with ⟨%K, #HI⟩
  ihave Htk := (Entails.of_eq (toks_around (F := F))) $$ Htok
  iapply (with_persistent (R := recs (W m) K) fun c _ => dealt_intro m K c)
  isplitr
  · unfold recs; isplitl; · iexact HI
    iexact HR
  · iapply ((Entails.of_eq (bigSep_sep' Finset.univ (fun c : Dev nD => bigSep Finset.univ fun k : Cel => (atPos EX (kcell (c, k)) 0 ∅ 0 : sProp 𝕄)) payToks).symm).trans
      (bigSep_mono fun c _ => show _ ⊢ linear c from Entails.of_eq (by unfold linear; rfl)))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ minted m c) : sProp 𝕄)
    ⊢ |={Set.univ}=> bigSep Finset.univ (dealt m) :=
  ((bigSep_mono fun c _ => core_alloc m c).trans (bigSep_fupd _ _)).trans (BI.fupd_mono (regroup m))

/-! ## Before and after the body -/

def start (c : Dev nD) : sProp 𝕄 := iprop(dealt m c ∗ credits c ∗ levAts L lv)
def Φ₀ (c : Dev nD) : sProp 𝕄 := iprop(start m c ∗ some_ (F := F) c cc0_scratch0 ∗ bufs (F := F) c)
def Φ₁ (c : Dev nD) : sProp 𝕄 :=
  iprop((bigSep Finset.univ fun t : T => semVal (sndC c t) 0) ∗ (bigSep Finset.univ fun t : T => closedR (F := F) c t) ∗ semVal (barC c) 0
    ∗ some_ (F := F) c cc0_scratch0 ∗ bufs (F := F) c)

def dats (_ : Fin 1) (c : Dev nD) : Dat τ (Elt F) Unit ℕ UU ℕ cfg0 c where
  A w := m ((cfg0.win w).arr.view.loc (c : Thread nD τ))
  after w _ := match w with
    | ⟨0, _⟩ => X m c
    | ⟨1, _⟩ => G m c
    | ⟨2, _⟩ => I m c
    | ⟨3, _⟩ => W m c
    | ⟨4, _⟩ => out m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_eq (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

def t₀ : Fin cfg0.N := t0_0

def bodyPre (c : Dev nD) : sProp 𝕄 :=
  iprop(Φ₀ m c ∗ (dats m 0 c).owesAt () t₀.castSucc
    ∗ (∃ d, stg c cc0_stg0_0 ((dats m 0 c).before (0 : Fin 5) t₀ d))
    ∗ (∃ d, stg c cc0_stg1_0 ((dats m 0 c).before (1 : Fin 5) t₀ d))
    ∗ (∃ d, stg c cc0_stg2_0 ((dats m 0 c).before (2 : Fin 5) t₀ d))
    ∗ (∃ d, stg c cc0_stg3_0 ((dats m 0 c).before (3 : Fin 5) t₀ d))
    ∗ (∃ d, stg c cc0_stg4_0 ((dats m 0 c).before (4 : Fin 5) t₀ d)))

def bodyPost (c : Dev nD) : sProp 𝕄 :=
  iprop(Φ₁ c ∗ (dats m 0 c).owesAt () t₀.succ ∗ stg c cc0_stg0_0 (X m c) ∗ stg c cc0_stg1_0 (G m c) ∗ stg c cc0_stg2_0 (I m c)
    ∗ stg c cc0_stg3_0 (W m c) ∗ stg c cc0_stg4_0 (out m c))

theorem before_0 (c : Dev nD) (d) : (dats m 0 c).before (0 : Fin 5) t₀ d = X m c := by unfold Dat.before; rw [if_pos (fetch0_0 t₀)]; rfl
theorem before_1 (c : Dev nD) (d) : (dats m 0 c).before (1 : Fin 5) t₀ d = G m c := by unfold Dat.before; rw [if_pos (fetch0_1 t₀)]; rfl
theorem before_2 (c : Dev nD) (d) : (dats m 0 c).before (2 : Fin 5) t₀ d = I m c := by unfold Dat.before; rw [if_pos (fetch0_2 t₀)]; rfl
theorem before_3 (c : Dev nD) (d) : (dats m 0 c).before (3 : Fin 5) t₀ d = W m c := by unfold Dat.before; rw [if_pos (fetch0_3 t₀)]; rfl

/-- The staging buffers with what is dealt make the body's start. -/
theorem enter (c : Dev nD) : bodyPre m c ⊢ iprop(∃ K, ∃ a, ∃ o, ctx (W m) K ∗ hail c 0 ∗ toMeet c ∗ mem (X m) (G m) (I m) (W m) c a o
    ∗ bigSep Finset.univ fun t : T => atPos EX (sndC c t) 0 ∅ 0) := by
  unfold bodyPre Φ₀ start dealt linear payToks credits
  simp only [before_0, before_1, before_2, before_3]
  iintro ⟨⟨⟨⟨%K, #HR, Hat, Hb, Ht⟩, ⟨HcB, HcR⟩, #Hl⟩, ⟨%a, Ha⟩, Hs⟩, Ho, ⟨%d0, %g0, %h0, H0⟩, ⟨%d1, %g1, %h1, H1⟩, ⟨%d2, %g2, %h2, H2⟩, ⟨%d3, %g3, %h3, H3⟩, ⟨%d4, %g4, %h4, H4⟩⟩
  subst h0 h1 h2 h3
  unfold Dat.owesAt Pipeline.owesWithin
  icases Ho with ⟨%Wt, %hW, HO⟩
  rw [show (dats m 0 c).owed t₀.castSucc = O₀ c from rfl]
  ihave Hs := (places (F := F) c) $$ Hs
  icases Hs with ⟨Hown, Hland⟩
  ihave Hh := (Entails.of_eq (hailed (F := F) c)) $$ [Hb Hland]
  · isplitl [Hb] <;> iassumption
  ihave Hat := (Entails.of_eq (over_cells (F := F) fun k => atPos EX (kcell (c, k)) 0 ∅ 0)) $$ Hat
  icases Hat with ⟨HaB, HaS, HaR⟩
  iexists K; iexists a; iexists g4
  isplitr
  · unfold ctx; isplitl; · iexact HR
    iexact Hl
  isplitl [HO Hh]
  · unfold hail owing
    isplitl [HO]; · iexists Wt; iexact HO
    iexact Hh
  isplitl [HaB HcB Ht HaR HcR Hown]
  · unfold toMeet
    isplitl [HaB HcB]
    · isplitl [HaB] <;> iassumption
    isplitl [Ht]
    · iapply (Entails.of_eq (bigSep_univ_eq_bigSepL sends sends_univ.1 sends_univ.2 (toks (F := F) c))); iexact Ht
    isplitl [HaR HcR]
    · iapply (Entails.of_eq (bigSep_univ_eq_bigSepL recvs recvs_univ.1 recvs_univ.2 (toRecv (F := F) c)))
      unfold toRecv
      iapply (Entails.of_eq (bigSep_sep' Finset.univ (fun t : T => (atPos EX (rcvC c t) 0 ∅ 0 : sProp 𝕄)) (fun t => cred (tallyAt (rcvC c t) () (amt t.2)))).symm)
      isplitl [HaR] <;> iassumption
    iexact Hown
  isplitl [H0 H1 H2 H3 H4 Ha]
  · unfold mem
    isplitl [H0]; · iexact H0
    isplitl [H1]; · iexact H1
    isplitl [H2]; · iexact H2
    isplitl [H3]; · iexact H3
    isplitl [Ha]; · iexact Ha
    iexact H4
  iexact HaS

theorem exit_ (c : Dev nD) : left (X m) (G m) (I m) (W m) c ⊢ bodyPost m c := by
  unfold left bodyPost Φ₁ owing mem Dat.owesAt Pipeline.owesWithin
  rw [show (dats m 0 c).owed t₀.succ = 0 from rfl]
  iintro ⟨⟨%Wt, HO⟩, HS, HR, HB, Hs, H0, H1, H2, H3, Ha, H4⟩
  isplitl [HS HR HB Hs Ha]
  · isplitl [HS]; · iexact HS
    isplitl [HR]; · iexact HR
    isplitl [HB]; · iexact HB
    isplitl [Ha]; · iexists _; iexact Ha
    iexact Hs
  isplitl [HO]
  · iexists Wt
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  iexists _; isplitr; · (ipureintro; rfl)
  iexact H4

theorem body_all (c : Dev nD) (t : Fin cfg0.N) : bodyPre m c ⊢ runs c (bodyAt0 (F := F) t) (fun _ => bodyPost m c) := by
  refine BIBase.Entails.trans (enter m c) ?_
  iintro ⟨%K, %a, %o, H⟩
  iapply (body_run (X m) (G m) (I m) (W m) K c t (Q := fun _ => bodyPost m c) (exit_ m c)); iexact H

set_option maxRecDepth 65536 in
theorem body_obligation (c : Dev nD) : BodyObligation (dats (F := F) m 0 c) (defs₀ (F := F)) 𝒱₀ () Set.univ := fun t => by
  rw [fin_N0 t]
  rw [bigSep_W0, bigSep_W0]
  simp only [owns_eq]
  exact body_all m c t0_0

/-! ## The run -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ dealt m c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ bufs
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, own_eq, unscoped_eq]
  unfold Φ₁ closedR bufs
  iintro ⟨HS, HR, HB, H⟩
  isplitl [HB]; · iexact HB
  isplitl [HS HR]
  · isplitl [HS] <;> iassumption
  iexact H

theorem stage_level (w : Fin 5) (s) : lvOf (role (.dma ((spec0 w).sem s))) = 0 := by
  have h : ∀ (w : Fin 5) (s) (x : T × Bool), osem x ≠ .dma ((spec0 w).sem s) := by decide +kernel
  cases e : role (.dma ((spec0 w).sem s)) with
  | none => rfl
  | some k =>
    have h' := csem_of_role e
    cases k with
    | none => cases h'
    | some x => exact absurd h' (h w s x)

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait c _ sends hails (fun t _ => by rw [stage_level]; unfold lvOf; dsimp only; split <;> decide) (fun f _ => by rw [stage_level]; decide)
    · show _ ⊢ MayWait _ _ _ 0
      rw [MayWait_zero]; iintro -; iempintro

def finalA (c : Dev nD) (w : Fin cfg0.W) : Buf (Elt F) ((cfg0.win w).arr.view.loc (c : Thread nD τ)) := (dats m 0 c).arrAt w cfg0.N

def Ends : PUnit × MemSt nD τ sig (Elt F) → Prop := fun r =>
  ∀ c : Dev nD, ∀ w : Fin cfg0.W, r.2.mem ((cfg0.win w).arr.view.loc (c : Thread nD τ)) = finalA m c w

set_option maxRecDepth 8000 in
theorem run_main : θ_run defs (onTc (τ := τ) (main (F := F))) (s₀ m ρ) (fun r => Ends m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := minted m) (G' := dealt m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem final_0 (c : Dev nD) : finalA m c (0 : Fin 5) = m ((c : Thread nD τ).loc main_arg0) := (dats (F := F) m 0 c).arrAt_in (0 : Fin 5) rfl _
theorem final_1 (c : Dev nD) : finalA m c (1 : Fin 5) = m ((c : Thread nD τ).loc main_arg1) := (dats (F := F) m 0 c).arrAt_in (1 : Fin 5) rfl _
theorem final_2 (c : Dev nD) : finalA m c (2 : Fin 5) = m ((c : Thread nD τ).loc main_arg2) := (dats (F := F) m 0 c).arrAt_in (2 : Fin 5) rfl _
theorem final_3 (c : Dev nD) : finalA m c (3 : Fin 5) = m ((c : Thread nD τ).loc main_arg3) := (dats (F := F) m 0 c).arrAt_in (3 : Fin 5) rfl _
theorem final_4 (c : Dev nD) : (win0_4.blk (0 : Fin 1)).view.read (Elt F) (finalA m c (4 : Fin 5)) = out m c := by
  unfold finalA
  rw [show cfg0.N = ((0 : Fin 1) : Fin cfg0.N).val + 1 from rfl, (dats m 0 c).arrAt_succ (4 : Fin 5) (0 : Fin 1)]
  rw [show (cfg0.win (4 : Fin 5)).flush (0 : Fin 1) = true from flush0_4 _, if_pos rfl]
  exact View.read_write_univ _ _

end Cert.Moe

end
-- ==== Proof.Claims.lean ====
/-
# `Claims`: the frames of the kernel and of the reference
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run
public import Idealize.ShloMosaic.Adequacy
public import Idealize.ShloMosaic.Init

@[expose] public section

set_option maxRecDepth 65536

noncomputable section

namespace Cert.Moe

open Idealize.ShloMosaic Idealize.SL.Sem

/-- The arguments and the counters after a run. -/
theorem frame_of {F : FTy → Type} [FloatOps F] (m) (ρ) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono
    (fun _ h => ⟨fun c => ⟨(h.1 c (0 : Fin 5)).trans (final_0 m c), (h.1 c (1 : Fin 5)).trans (final_1 m c), (h.1 c (2 : Fin 5)).trans (final_2 m c),
      (h.1 c (3 : Fin 5)).trans (final_3 m c)⟩, h.2⟩) (run_main (F := F) m ρ)

/-- The two printed programs have the same bodies. -/
theorem bodies_eq : @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc (funext fun i => funext fun x => ?_)
  obtain ⟨_ | _, h⟩ := i
  · obtain ⟨t, s⟩ := x; rfl
  · exact absurd h (Nat.not_lt.2 (Nat.le_add_left _ _))

/-- And so the same definitions. -/
theorem defs_eq : @Cert.Kernel.defs Bits _ Cert.Kernel.Gen.facts = @Cert.KernelIdeal.defs Bits _ Cert.KernelIdeal.Gen.facts :=
  congrArg (Pipeline.defs (Cert.KernelIdeal.pcfgs (F := Bits))) bodies_eq

/-- The kernel as printed, read at bits. -/
theorem frame_kernel : Cert.quiescent_Kernel (hKernel := Cert.Kernel.Gen.facts) := by
  intro m ρ _
  rw [defs_eq]
  exact frame_of (F := Bits) m ρ

/-- The kernel over the ideal floats. -/
theorem frame_ideal : Cert.quiescent_KernelIdeal (hKernelIdeal := Cert.KernelIdeal.Gen.facts) := fun m ρ _ => frame_of (F := Ideal) m ρ

/-- The reference over the ideal floats. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Moe

end
-- ==== Proof.Model.lean ====
/-
# `Model`: the layer as plain sums over the extended reals

One row of tokens, one expert, one output column at a time; and what the reference computes, in these terms.
-/
module

public import proofs.«01_k».proof.Proof.Gen.ReferenceIdeal
public import proofs.«01_k».proof.Proof.Gen.ReferenceIdeal.Run
public import Idealize.ShloMosaic.Lib.Pointwise
public import Idealize.ShloMosaic.Lib.Tactic.CleanTypes

@[expose] public section

noncomputable section

namespace Cert.Moe

open Idealize.ShloMosaic

/-- The score of expert `e` for a token `x`. -/
def score (x : Fin 256 → EReal) (G : Fin 256 → Fin 16 → EReal) (e : Fin 16) : EReal := ∑ k, x k * G k e

/-- The greatest score of a token. -/
def top (s : Fin 16 → EReal) : EReal := Finset.univ.fold max (Ideal.ofBits .f32 0xFF800000#32) s

/-- Its probabilities over all experts. -/
def prob (s : Fin 16 → EReal) (e : Fin 16) : EReal :=
  Ideal.div (Ideal.exp (s e - top s)) (∑ k, Ideal.exp (s k - top s))

/-- Whether expert `e` is one of the token's two. -/
def routed (a b : BitVec 32) (e : Fin 16) : BitVec 1 :=
  IntOp.ori (IntOp.cmpi .eq a (BitVec.ofNat 32 e.val)) (IntOp.cmpi .eq b (BitVec.ofNat 32 e.val))

/-- The probabilities of the token's own experts, zero elsewhere, -/
def kept (s : Fin 16 → EReal) (a b : BitVec 32) (e : Fin 16) : EReal := Scalar.select (routed a b e) (prob s e) 0
/-- and the same made to sum to one. -/
def gate (s : Fin 16 → EReal) (a b : BitVec 32) (e : Fin 16) : EReal := Ideal.div (kept s a b e) (∑ k, kept s a b k)

/-- The scale of a column of weights. -/
def scl (w : Fin 256 → EReal) : EReal :=
  max (Finset.univ.fold max (Ideal.ofBits .f32 0xFF800000#32) fun k => max (w k) (-(w k))) (Ideal.ofBits .f32 0x0DA24260#32) *
    Ideal.ofBits .f32 0x3C010204#32

/-- A weight in units of the scale, rounded and clipped. -/
def code (v s : EReal) : EReal :=
  min (Ideal.ofBits .f32 0x42FE0000#32) (max (Ideal.ofBits .f32 0xC2FE0000#32) (Ideal.liftRound Ideal.roundHalfEven (Ideal.div v s)))

/-- The product of a token with a column of quantised weights. -/
def prod (x w : Fin 256 → EReal) : EReal := (∑ k, x k * code (w k) (scl w)) * scl w

/-- Whether any of two words is set. -/
theorem any_two (f : Fin 2 → BitVec 1) : Finset.univ.fold IntOp.ori 0#1 f = IntOp.ori (f 0) (f 1) := by
  rw [show (Finset.univ : Finset (Fin 2)) = {0, 1} from rfl, Finset.fold_insert (by decide), Finset.fold_singleton]
  generalize f 0 = a
  generalize f 1 = b
  revert a b
  decide

open Cert.ReferenceIdeal Cert.ReferenceIdeal.Gen in
set_option maxRecDepth 16384 in
/-- The reference's result at token `t` and column `h`. -/
theorem ref_apply (m : (ℓ : Loc nD τ sig) → Buf (Elt Ideal) ℓ) (t : Fin 4096) (h : Fin 512)
    (x : FVec Ideal S4096x256 .bf16) (hx : m (((0 : Dev nD).tc : Thread nD τ).loc main_arg0) = x)
    (G : FVec Ideal S256x16 .bf16) (hG : m (((0 : Dev nD).tc : Thread nD τ).loc main_arg1) = G)
    (I : IVec S4096x2 32) (hI : m (((0 : Dev nD).tc : Thread nD τ).loc main_arg2) = I)
    (W : FVec Ideal S16x256x512 .bf16) (hW : m (((0 : Dev nD).tc : Thread nD τ).loc main_arg3) = W) :
    Cert.ReferenceIdeal.Value.res_out0 m 0 (ix2 t h)
      = ∑ e, gate (score (fun k => x (ix2 t k)) fun k e => G (ix2 k e)) (I (ix2 t 0)) (I (ix2 t 1)) e
          * prod (fun k => x (ix2 t k)) fun k => W (ix3 e k h) := by
  unfold Cert.ReferenceIdeal.Value.res_out0 Cert.ReferenceIdeal.Value.res_main_v44
  rw [hx, hG, hI, hW]
  clean_types
  pointwise [prod, code, scl, gate, kept, routed, prob, top, score]
  simp only [any_two, id_eq, constant_apply, Ideal.ofBits_def, Ideal.ofBits_zero_f32]
  rfl

end Cert.Moe

end
-- ==== Proof.Values.lean ====
/-
# `Values`: what a device computes, over the extended reals

The kernel's term for one expert, its gates and its quantised weights, each as the plain sum that `Model` names.
-/
module

public import proofs.«01_k».proof.Proof.Body
public import proofs.«01_k».proof.Proof.Model

@[expose] public section

noncomputable section

namespace Cert.Moe

open Cert.KernelIdeal Cert.KernelIdeal.Gen

open Idealize.ShloMosaic

/-! ## One expert -/

/-- The kernel's term of the expert numbered `e`: the gates of that column, times the product, times the scales. -/
def expert {F : FTy → Type} [FloatOps F] (e : BitVec 32) (x : FVec F S512x256 .bf16) (g : FVec F S512x16 .f32) (q : IVec S256x512 8) (s : FVec F S1x512 .f32) :
    FVec F S512x512 .f32 :=
  mulf (broadcastTo S512x512 (shapeCast S512x1 (multiReduction .add [1] S512 (select (cmpi .eq cols (broadcast S512x16 e)) g
      (broadcast S512x16 (Scalar.ofBits .f32 0x00000000#32))) 0x00000000#32 reduces_S512x16_S512 (.inl rfl) rfl) shapeCasts_S512_S512x1) broadcasts_S512x1_S512x512)
    (mulf (matmul dot_S512x256_S256x512_S512x512_1_0_0_1_n_n none x (sitofp .bf16 q) (constant S512x512 .f32 0x00000000#32))
      (broadcastTo S512x512 s broadcasts_S1x512_S512x512))

/-- The entry of a row that a mask of one column picks. -/
theorem sum_pick (g : Fin 16 → EReal) (e : Fin 16) :
    ∑ k : Fin 16, Scalar.select (IntOp.cmpi .eq (BitVec.ofNat 32 k.val) (BitVec.ofNat 32 e.val)) (g k) 0 = g e := by
  rw [Finset.sum_eq_single e]
  · rw [show IntOp.cmpi .eq (BitVec.ofNat 32 e.val) (BitVec.ofNat 32 e.val) = 1#1 by revert e; decide]; rfl
  · intro k _ hk
    rw [show IntOp.cmpi .eq (BitVec.ofNat 32 k.val) (BitVec.ofNat 32 e.val) = 0#1 by revert k e; decide]; rfl
  · exact fun h => absurd (Finset.mem_univ _) h

/-- The term of expert `e` at row `r` and column `h`. -/
theorem expert_apply (e : Fin 16) (x : FVec Ideal S512x256 .bf16) (g : FVec Ideal S512x16 .f32) (q : IVec S256x512 8) (s : FVec Ideal S1x512 .f32)
    (r : Fin 512) (h : Fin 512) :
    expert (BitVec.ofNat 32 e.val) x g q s (ix2 r h)
      = g (ix2 r e) * ((∑ k : Fin 256, x (ix2 r k) * (((q (ix2 k h)).toInt : ℝ) : EReal)) * s (ix2 0 h)) := by
  rw [← sum_pick (fun k => g (ix2 r k)) e]
  pointwise [expert, cols]
  rfl

/-! ## The gates -/

theorem gates_apply (X : FVec Ideal S512x256 .bf16) (G : FVec Ideal S256x16 .bf16) (i0 i1 : IVec S512x1 32) (r : Fin 512) (e : Fin 16) :
    k0_pay13 (F := Ideal) (k0_pay11 X G) (k0_pay12 X G) i0 i1 (ix2 r e)
      = gate (score (fun k => X (ix2 r k)) fun k e => G (ix2 k e)) (i0 (ix2 r 0)) (i1 (ix2 r 0)) e := by
  pointwise [k0_pay13, k0_pay12, k0_pay11, k0_pay10, gate, kept, routed, prob, top, score]

/-! ## The quantised weights -/

/-- A code is a whole number of at most seven bits. -/
theorem code_whole (v s : EReal) : ∃ n : ℤ, -127 ≤ n ∧ n ≤ 127 ∧ code v s = ((n : ℝ) : EReal) := by
  have hp : Ideal.ofBits .f32 0x42FE0000#32 = ((127 : ℝ) : EReal) := by
    simp [Ideal.ofBits, Ideal.ieee, -EReal.coe_mul]; norm_num
  have hm : Ideal.ofBits .f32 0xC2FE0000#32 = ((-127 : ℝ) : EReal) := by
    simp [Ideal.ofBits, Ideal.ieee, -EReal.coe_mul]; norm_num
  unfold code
  rw [hp, hm]
  generalize Ideal.div v s = y
  induction y with
  | bot => exact ⟨-127, by decide, by decide, by
      show min ((127 : ℝ) : EReal) (max ((-127 : ℝ) : EReal) ⊥) = _
      rw [max_eq_left bot_le, min_eq_right (by exact_mod_cast (by norm_num : (-127 : ℝ) ≤ 127))]; norm_num⟩
  | top => exact ⟨127, by decide, by decide, by
      show min ((127 : ℝ) : EReal) (max ((-127 : ℝ) : EReal) ⊤) = _
      rw [max_eq_right le_top, min_eq_left le_top]; norm_num⟩
  | coe r =>
    refine ⟨min 127 (max (-127) (Ideal.roundHalfEven r)), by omega, by omega, ?_⟩
    show min ((127 : ℝ) : EReal) (max ((-127 : ℝ) : EReal) ((Ideal.roundHalfEven r : ℝ) : EReal)) = _
    push_cast
    rfl

/-- Stored as a word and read again, a code is itself. -/
theorem code_word (v s : EReal) : (((Ideal.fptosi 8 (code v s)).toInt : ℝ) : EReal) = code v s := by
  obtain ⟨n, h1, h2, e⟩ := code_whole v s
  rw [e]
  have : (Ideal.fptosi 8 ((n : ℝ) : EReal)).toInt = n := by
    show (BitVec.ofInt 8 (max (-(2 ^ (8 - 1) : ℕ)) (min ((2 ^ (8 - 1) : ℕ) - 1) (if 0 ≤ (n : ℝ) then ⌊(n : ℝ)⌋ else ⌈(n : ℝ)⌉)))).toInt = n
    rw [Int.floor_intCast, Int.ceil_intCast, ite_self, min_eq_right (by norm_num; omega), max_eq_right (by norm_num; omega), BitVec.toInt_ofInt]
    exact Int.bmod_eq_of_le (by norm_num; omega) (by norm_num; omega)
  rw [this]

theorem scale0_apply (w : FVec Ideal S1x256x512 .bf16) (h : Fin 512) : k0_pay2 (F := Ideal) w (ix2 0 h) = scl (fun k => w (ix3 0 k h)) := by
  pointwise [k0_pay2, k0_pay1, scl]
  rfl

theorem scale1_apply (w : FVec Ideal S1x256x512 .bf16) (h : Fin 512) : k0_pay6 (F := Ideal) w (ix2 0 h) = scl (fun k => w (ix3 0 k h)) := by
  pointwise [k0_pay6, k0_pay5, scl]
  rfl

theorem code0_apply (w : FVec Ideal S1x256x512 .bf16) (k : Fin 256) (h : Fin 512) :
    k0_pay3 (F := Ideal) w (ix4 0 0 k h) = Ideal.fptosi 8 (code (w (ix3 0 k h)) (scl (fun k => w (ix3 0 k h)))) := by
  pointwise [k0_pay3, k0_pay2, k0_pay1, code, scl]
  rfl

theorem code1_apply (w : FVec Ideal S1x256x512 .bf16) (k : Fin 256) (h : Fin 512) :
    k0_pay8 (F := Ideal) (k0_pay7 w) (ix4 0 0 k h) = Ideal.fptosi 8 (code (w (ix3 0 k h)) (scl (fun k => w (ix3 0 k h)))) := by
  pointwise [k0_pay8, k0_pay7, k0_pay6, k0_pay5, code, scl]
  rfl

end Cert.Moe

end
-- ==== Proof.Stages.lean ====
/-
# `Stages`: the accumulator as a sum over all experts

Each stage adds the two experts of one or two devices to the accumulator. At the end every device's experts were added
once, in an order that depends on the device; over the extended reals that is the sum over the sixteen experts.
-/
module

public import proofs.«01_k».proof.Proof.Values
public import Idealize.ShloMosaic.Lib.Pipeline.Value

@[expose] public section

noncomputable section

namespace Cert.Moe

open Cert.KernelIdeal Cert.KernelIdeal.Gen

open Idealize.ShloMosaic

/-! ## The loaded experts -/

section Loads

variable {F : FTy → Type} [FloatOps F]

/-- The scales of expert `j`. -/
def scales (j : Fin 2) (w : (cc0_stg3_0 : Ref sig .tc).ty.Contents (Elt F)) : FVec F S1x512 .f32 := fun x => rows w (ix2 j (x 1))

theorem tile_cast (j : Fin 2) (w : (cc0_stg3_0 : Ref sig .tc).ty.Contents (Elt F)) (h : S1x1x256x512.ShapeCasts S256x512) :
    shapeCast (α := BitVec 8) S256x512 (tile j w) h = qs w j := shapeCast_shapeCast _ _ _

theorem flat_cast (j : Fin 2) (w : (cc0_stg3_0 : Ref sig .tc).ty.Contents (Elt F)) (h : S1x256x512.ShapeCasts S256x512) :
    shapeCast (α := BitVec 8) S256x512 (flat j w) h = qs w j := shapeCast_shapeCast _ _ _

theorem row_cast (j : Fin 2) (w : (cc0_stg3_0 : Ref sig .tc).ty.Contents (Elt F)) (h : S1x1x512.ShapeCasts S1x512) :
    shapeCast (α := F .f32) S1x512 (row j w) h = scales j w := by
  funext i
  obtain ⟨a, b, rfl⟩ : ∃ a b, i = ix2 a b := ⟨i 0, i 1, by funext x; fin_cases x <;> rfl⟩
  pointwise [row, scales]

theorem flatRow0_eq (w : (cc0_stg3_0 : Ref sig .tc).ty.Contents (Elt F)) : flatRow0 w = scales 0 w := by
  funext i
  refine congrArg (rows w) (funext fun a => Fin.ext ?_)
  have h0 : (i 0).val < 1 := (i 0).isLt
  fin_cases a
  · show 0 + 1 * (i 0).val = 0; omega
  · show 0 + 1 * (i 1).val = (i 1).val; omega

theorem flatRow1_eq (w : (cc0_stg3_0 : Ref sig .tc).ty.Contents (Elt F)) : flatRow1 w = scales 1 w := by
  funext i
  refine congrArg (rows w) (funext fun a => Fin.ext ?_)
  have h0 : (i 0).val < 1 := (i 0).isLt
  fin_cases a
  · show 1 + 1 * (i 0).val = 1; omega
  · show 0 + 1 * (i 1).val = (i 1).val; omega

end Loads

/-! ## The stages, as sums of the kernel's terms -/

section Terms

variable {F : FTy → Type} [FloatOps F]
variable (X : Dev nD → (cc0_stg0_0 : Ref sig .tc).ty.Contents (Elt F)) (G : Dev nD → (cc0_stg1_0 : Ref sig .tc).ty.Contents (Elt F))
variable (I : Dev nD → (cc0_stg2_0 : Ref sig .tc).ty.Contents (Elt F)) (W : Dev nD → (cc0_stg3_0 : Ref sig .tc).ty.Contents (Elt F)) (c : Dev nD)

/-- The term of expert `j` of the device `k` steps on, under the number `e`. -/
def piece (e : BitVec 32) (k : ℕ) (j : Fin 2) : FVec F S512x512 .f32 :=
  expert e (toks_ X c) (gates X G I c) (qs (W (fwd k c)) j) (scales j (W (fwd k c)))

/-- The zero an inner sum starts from. -/
abbrev zero : FVec F S512x512 .f32 := broadcast S512x512 (Scalar.ofBits .f32 0x00000000#32)

/-- The number of expert `j` of the device of word `v`. -/
abbrev num (v : BitVec 32) (j : BitVec 32) : BitVec 32 := Scalar.addi (Scalar.muli v 2#32) j

theorem accA_eq : accA X G I W c = addf (piece X G I W c (Scalar.muli (word2 c) 2#32) 0 0) (piece X G I W c (num (word2 c) 1#32) 0 1) := by
  simp only [accA, cols, gates, k0_pay14, k0_pay15, tile_cast, row_cast, shapeCast_self, piece, expert, num, zero]

theorem accB_eq : accB X G I W c = addf (accA X G I W c) (addf (addf (addf (addf zero
    (piece X G I W c (num (word398 (word2 c)) 0#32) 7 0)) (piece X G I W c (num (word401 (word2 c)) 0#32) 1 0))
    (piece X G I W c (num (word398 (word2 c)) 1#32) 7 1)) (piece X G I W c (num (word401 (word2 c)) 1#32) 1 1)) := by
  simp only [accB, k0_pay16, k0_pay17, k0_pay18, tile_cast, row_cast, shapeCast_self, piece, expert, num, zero]
  rfl

theorem accC_eq : accC X G I W c = addf (accB X G I W c) (addf (addf zero
    (piece X G I W c (num (word9 c) 0#32) 4 0)) (piece X G I W c (num (word9 c) 1#32) 4 1)) := by
  simp only [accC, k0_pay19, k0_pay20, k0_pay21, flat_cast, flatRow0_eq, flatRow1_eq, shapeCast_self, piece, expert, num, zero]

theorem accD_eq : accD X G I W c = addf (accC X G I W c) (addf (addf zero
    (piece X G I W c (num (word14 c) 0#32) 5 0)) (piece X G I W c (num (word14 c) 1#32) 5 1)) := by
  simp only [accD, k0_pay22, k0_pay23, k0_pay24, flat_cast, flatRow0_eq, flatRow1_eq, shapeCast_self, piece, expert, num, zero]

theorem accE_eq : accE X G I W c = addf (accD X G I W c) (addf (addf zero
    (piece X G I W c (num (word11 c) 0#32) 3 0)) (piece X G I W c (num (word11 c) 1#32) 3 1)) := by
  simp only [accE, k0_pay25, k0_pay26, k0_pay27, flat_cast, flatRow0_eq, flatRow1_eq, shapeCast_self, piece, expert, num, zero]

theorem accF_eq : accF X G I W c = addf (accE X G I W c) (addf (addf (addf (addf zero
    (piece X G I W c (num (Scalar.remsi (word726 (word2 c)) 8#32) 0#32) 6 0)) (piece X G I W c (num (word730 (word2 c)) 0#32) 2 0))
    (piece X G I W c (num (Scalar.remsi (word726 (word2 c)) 8#32) 1#32) 6 1)) (piece X G I W c (num (word730 (word2 c)) 1#32) 2 1)) := by
  simp only [accF, k0_pay28, k0_pay29, k0_pay30, k0_pay31, k0_pay32, k0_pay33, k0_pay34, tile_cast, row_cast, shapeCast_self, piece, expert, num, zero]

end Terms

/-! ## The numbers of the experts -/

/-- Expert `j` of device `d`. -/
def ex (d : Dev nD) (j : Fin 2) : Fin 16 := ⟨2 * d.val + j.val, by have := d.isLt; have := j.isLt; change d.val < 8 at *; omega⟩

theorem num_own (c : Dev nD) : Scalar.muli (word2 c) 2#32 = BitVec.ofNat 32 (ex (fwd 0 c) 0).val
    ∧ num (word2 c) 1#32 = BitVec.ofNat 32 (ex (fwd 0 c) 1).val := by revert c; decide +kernel
theorem num_398 (c : Dev nD) (j : Fin 2) : num (word398 (word2 c)) (BitVec.ofNat 32 j.val) = BitVec.ofNat 32 (ex (fwd 7 c) j).val := by revert c j; decide +kernel
theorem num_401 (c : Dev nD) (j : Fin 2) : num (word401 (word2 c)) (BitVec.ofNat 32 j.val) = BitVec.ofNat 32 (ex (fwd 1 c) j).val := by revert c j; decide +kernel
theorem num_9 (c : Dev nD) (j : Fin 2) : num (word9 c) (BitVec.ofNat 32 j.val) = BitVec.ofNat 32 (ex (fwd 4 c) j).val := by revert c j; decide +kernel
theorem num_14 (c : Dev nD) (j : Fin 2) : num (word14 c) (BitVec.ofNat 32 j.val) = BitVec.ofNat 32 (ex (fwd 5 c) j).val := by revert c j; decide +kernel
theorem num_11 (c : Dev nD) (j : Fin 2) : num (word11 c) (BitVec.ofNat 32 j.val) = BitVec.ofNat 32 (ex (fwd 3 c) j).val := by revert c j; decide +kernel
theorem num_726 (c : Dev nD) (j : Fin 2) :
    num (Scalar.remsi (word726 (word2 c)) 8#32) (BitVec.ofNat 32 j.val) = BitVec.ofNat 32 (ex (fwd 6 c) j).val := by revert c j; decide +kernel
theorem num_730 (c : Dev nD) (j : Fin 2) : num (word730 (word2 c)) (BitVec.ofNat 32 j.val) = BitVec.ofNat 32 (ex (fwd 2 c) j).val := by revert c j; decide +kernel

/-! ## One term at an index -/

theorem col0_apply (i : IVec S512x2 32) (r : Fin 512) : col0 (F := Ideal) i (ix2 r 0) = i (ix2 r 0) := by
  refine congrArg i (funext fun a => Fin.ext ?_)
  fin_cases a
  · show 0 + 1 * r.val = r.val; omega
  · rfl

theorem col1_apply (i : IVec S512x2 32) (r : Fin 512) : col1 (F := Ideal) i (ix2 r 0) = i (ix2 r 1) := by
  refine congrArg i (funext fun a => Fin.ext ?_)
  fin_cases a
  · show 0 + 1 * r.val = r.val; omega
  · rfl

theorem exp0_apply (w : FVec Ideal S2x256x512 .bf16) (k : Fin 256) (h : Fin 512) : exp0 (F := Ideal) w (ix3 0 k h) = w (ix3 0 k h) := by
  refine congrArg w (funext fun a => Fin.ext ?_)
  fin_cases a
  · rfl
  · show 0 + 1 * k.val = k.val; omega
  · show 0 + 1 * h.val = h.val; omega

theorem exp1_apply (w : FVec Ideal S2x256x512 .bf16) (k : Fin 256) (h : Fin 512) : exp1 (F := Ideal) w (ix3 0 k h) = w (ix3 1 k h) := by
  refine congrArg w (funext fun a => Fin.ext ?_)
  fin_cases a
  · rfl
  · show 0 + 1 * k.val = k.val; omega
  · show 0 + 1 * h.val = h.val; omega

theorem scales_apply (w : FVec Ideal S2x256x512 .bf16) (j : Fin 2) (h : Fin 512) :
    scales (F := Ideal) j w (ix2 0 h) = scl fun k => w (ix3 j k h) := by
  fin_cases j
  · show k0_pay4 (F := Ideal) (exp0 w) (ix3 0 0 h) = _
    rw [show k0_pay4 (F := Ideal) (exp0 w) (ix3 0 0 h) = k0_pay2 (F := Ideal) (exp0 w) (ix2 0 h) by pointwise [k0_pay4], scale0_apply]
    exact congrArg scl (funext fun k => exp0_apply w k h)
  · show k0_pay9 (F := Ideal) (k0_pay6 (exp1 w)) (ix3 0 0 h) = _
    rw [show k0_pay9 (F := Ideal) (k0_pay6 (exp1 w)) (ix3 0 0 h) = k0_pay6 (F := Ideal) (exp1 w) (ix2 0 h) by pointwise [k0_pay9], scale1_apply]
    exact congrArg scl (funext fun k => exp1_apply w k h)

theorem qs_apply (w : FVec Ideal S2x256x512 .bf16) (j : Fin 2) (k : Fin 256) (h : Fin 512) :
    qs (F := Ideal) w j (ix2 k h) = Ideal.fptosi 8 (code (w (ix3 j k h)) (scl fun k => w (ix3 j k h))) := by
  fin_cases j
  · show shapeCast S256x512 (k0_pay3 (F := Ideal) (exp0 w)) _ (ix2 k h) = _
    rw [show shapeCast S256x512 (k0_pay3 (F := Ideal) (exp0 w)) _ (ix2 k h) = k0_pay3 (F := Ideal) (exp0 w) (ix4 0 0 k h) by pointwise, code0_apply]
    simp only [exp0_apply]; rfl
  · show shapeCast S256x512 (k0_pay8 (F := Ideal) (k0_pay7 (exp1 w))) _ (ix2 k h) = _
    rw [show shapeCast S256x512 (k0_pay8 (F := Ideal) (k0_pay7 (exp1 w))) _ (ix2 k h) = k0_pay8 (F := Ideal) (k0_pay7 (exp1 w)) (ix4 0 0 k h) by pointwise, code1_apply]
    simp only [exp1_apply]; rfl

section Sum

variable (X : Dev nD → FVec Ideal S512x256 .bf16) (G : Dev nD → FVec Ideal S256x16 .bf16) (I : Dev nD → IVec S512x2 32)
  (W : Dev nD → FVec Ideal S2x256x512 .bf16) (c : Dev nD) (r h : Fin 512)

/-- What expert `j` of device `d` contributes to row `r`, column `h` of device `c`. -/
def share (d : Dev nD) (j : Fin 2) : EReal :=
  gate (score (fun k => X c (ix2 r k)) fun k e => G c (ix2 k e)) (I c (ix2 r 0)) (I c (ix2 r 1)) (ex d j)
    * prod (fun k => X c (ix2 r k)) fun k => W d (ix3 j k h)

theorem toks_eq : toks_ (F := Ideal) X c = X c := shapeCast_self _ _

theorem piece_apply (e : BitVec 32) (k : ℕ) (j : Fin 2) (he : e = BitVec.ofNat 32 (ex (fwd k c) j).val) :
    piece (F := Ideal) X G I W c e k j (ix2 r h) = share X G I W c r h (fwd k c) j := by
  subst he
  unfold piece
  rw [expert_apply, toks_eq, scales_apply]
  unfold gates
  rw [gates_apply, col0_apply, col1_apply]
  simp only [qs_apply, code_word]
  rfl

/-- All devices are some number of steps on. -/
theorem sum_steps (f : Dev nD → EReal) : ∑ d, f d = ∑ k : Fin 8, f (fwd k.val c) :=
  (Fintype.sum_bijective (fun k : Fin 8 => fwd k.val c) (by revert c; decide +kernel) _ _ fun _ => rfl).symm

/-- All experts are the two of some device. -/
theorem sum_experts (f : Fin 16 → EReal) : ∑ e, f e = ∑ d : Dev nD, ∑ j : Fin 2, f (ex d j) := by
  rw [← (finProdFinEquiv (m := 8) (n := 2)).sum_comp f, Fintype.sum_prod_type]
  refine Finset.sum_congr rfl fun d _ => Finset.sum_congr rfl fun j _ => congrArg f (Fin.ext ?_)
  show j.val + 2 * d.val = 2 * d.val + j.val
  omega

theorem zero_apply : zero (F := Ideal) (ix2 r h) = 0 := by
  show Ideal.ofBits .f32 0x00000000#32 = 0
  exact Ideal.ofBits_zero_f32

theorem plus_apply (a b : FVec Ideal S512x512 .f32) (i : S512x512.Idx) : addf a b i = a i + b i := rfl

/-- What a device stores at row `r` and column `h`. -/
theorem outAt_apply : outAt (F := Ideal) X G I W c (ix2 r h) = ∑ d, ∑ j, share X G I W c r h d j := by
  show accF (F := Ideal) X G I W c (ix2 r h) = _
  rw [sum_steps c, accF_eq, accE_eq, accD_eq, accC_eq, accB_eq, accA_eq]
  simp only [plus_apply, zero_apply]
  have p0 := fun v k (hv : ∀ j : Fin 2, num v (BitVec.ofNat 32 j.val) = BitVec.ofNat 32 (ex (fwd k c) j).val) =>
    (piece_apply X G I W c r h _ k 0 (hv 0) : piece (F := Ideal) X G I W c (num v 0#32) k 0 (ix2 r h) = _)
  have p1 := fun v k (hv : ∀ j : Fin 2, num v (BitVec.ofNat 32 j.val) = BitVec.ofNat 32 (ex (fwd k c) j).val) =>
    (piece_apply X G I W c r h _ k 1 (hv 1) : piece (F := Ideal) X G I W c (num v 1#32) k 1 (ix2 r h) = _)
  rw [piece_apply X G I W c r h _ 0 0 (num_own c).1, piece_apply X G I W c r h _ 0 1 (num_own c).2, p0 _ 7 (num_398 c), p1 _ 7 (num_398 c),
    p0 _ 1 (num_401 c), p1 _ 1 (num_401 c), p0 _ 4 (num_9 c), p1 _ 4 (num_9 c), p0 _ 5 (num_14 c), p1 _ 5 (num_14 c),
    p0 _ 3 (num_11 c), p1 _ 3 (num_11 c), p0 _ 6 (num_726 c), p1 _ 6 (num_726 c), p0 _ 2 (num_730 c), p1 _ 2 (num_730 c)]
  simp only [Fin.sum_univ_eight, Fin.sum_univ_two]
  show _ = share X G I W c r h (fwd 0 c) 0 + share X G I W c r h (fwd 0 c) 1 + (share X G I W c r h (fwd 1 c) 0 + share X G I W c r h (fwd 1 c) 1)
    + (share X G I W c r h (fwd 2 c) 0 + share X G I W c r h (fwd 2 c) 1) + (share X G I W c r h (fwd 3 c) 0 + share X G I W c r h (fwd 3 c) 1)
    + (share X G I W c r h (fwd 4 c) 0 + share X G I W c r h (fwd 4 c) 1) + (share X G I W c r h (fwd 5 c) 0 + share X G I W c r h (fwd 5 c) 1)
    + (share X G I W c r h (fwd 6 c) 0 + share X G I W c r h (fwd 6 c) 1) + (share X G I W c r h (fwd 7 c) 0 + share X G I W c r h (fwd 7 c) 1)
  abel

end Sum

end Cert.Moe

end
-- ==== Proof.Algebraic.lean ====
/-
# `Algebraic`: the kernel's result is the reference's

Device `c` holds rows `512 c …` of the tokens and of the routing table and experts `2 c`, `2 c + 1`. What it stores are the
same rows of the reference's result, equal over the extended reals.
-/
module

public import proofs.«01_k».proof.Proof.Claims
public import proofs.«01_k».proof.Proof.Stages
public import Idealize.ShloMosaic.Lib.Layout

@[expose] public section

set_option maxRecDepth 65536

noncomputable section

namespace Cert.Moe

open Idealize.ShloMosaic Idealize.SL.Sem
open Cert.KernelIdeal Cert.KernelIdeal.Gen

/-! ## The staged arguments are the arguments -/

section Whole

variable {F : FTy → Type} [FloatOps F] (m : (ℓ : Loc nD τ sig) → Buf (Elt F) ℓ) (c : Dev nD)

theorem X_eq : X m c = m ((c.tc : Thread nD τ).loc main_arg0) :=
  Memref.read_access_unit_zero (Elt F) main_arg0 (funext fun a => by fin_cases a <;> decide) (fun a => by fin_cases a <;> decide) _
theorem G_eq : G m c = m ((c.tc : Thread nD τ).loc main_arg1) :=
  Memref.read_access_unit_zero (Elt F) main_arg1 (funext fun a => by fin_cases a <;> decide) (fun a => by fin_cases a <;> decide) _
theorem I_eq : I m c = m ((c.tc : Thread nD τ).loc main_arg2) :=
  Memref.read_access_unit_zero (Elt F) main_arg2 (funext fun a => by fin_cases a <;> decide) (fun a => by fin_cases a <;> decide) _
theorem W_eq : W m c = m ((c.tc : Thread nD τ).loc main_arg3) :=
  Memref.read_access_unit_zero (Elt F) main_arg3 (funext fun a => by fin_cases a <;> decide) (fun a => by fin_cases a <;> decide) _
/-- What the result array ends at. -/
theorem final_out : finalA m c (4 : Fin 5) = out m c :=
  (Memref.read_access_unit_zero (Elt F) main_v1 (funext fun a => by fin_cases a <;> decide) (fun a => by fin_cases a <;> decide) _).symm.trans (final_4 m c)

end Whole

/-! ## The blocks -/

/-- Row `r` of device `c`. -/
def rowOf (c : Fin 8) (r : Fin 512) : Fin 4096 := ⟨c.val * 512 + r.val, by have := c.isLt; have := r.isLt; omega⟩

theorem block_row {α : Type} {n : ℕ} (v : (⟨2, ![4096, n]⟩ : Shape).Idx → α) (hT : Layout.Tiles ⟨2, ![512, n]⟩ ⟨2, ![4096, n]⟩ 0 8) (c : Fin 8) (r : Fin 512) (k : Fin n) :
    Layout.block ⟨2, ![512, n]⟩ ⟨2, ![4096, n]⟩ 0 8 c v hT (ix2 r k) = v (ix2 (rowOf c r) k) := by
  rw [Layout.block_apply]
  refine congrArg v (funext fun a => Fin.ext ?_)
  rw [Layout.Tiles.idx_val]
  fin_cases a <;> rfl

theorem block_expert {α : Type} (v : (⟨3, ![16, 256, 512]⟩ : Shape).Idx → α) (hT : Layout.Tiles ⟨3, ![2, 256, 512]⟩ ⟨3, ![16, 256, 512]⟩ 0 8) (d : Fin 8) (j : Fin 2) (k : Fin 256) (h : Fin 512) :
    Layout.block ⟨3, ![2, 256, 512]⟩ ⟨3, ![16, 256, 512]⟩ 0 8 d v hT (ix3 j k h) = v (ix3 (ex d j) k h) := by
  rw [Layout.block_apply]
  refine congrArg v (funext fun a => Fin.ext ?_)
  rw [Layout.Tiles.idx_val]
  fin_cases a
  · show d.val * 2 + j.val = 2 * d.val + j.val; omega
  · rfl
  · rfl

/-! ## The value -/

/-- On blocks of the arguments a device stores its block of the reference's result. -/
theorem out_block (m : (ℓ : Loc nD τ sig) → Buf (Elt Ideal) ℓ)
    (m' : (ℓ : Loc Cert.ReferenceIdeal.nD Cert.ReferenceIdeal.τ Cert.ReferenceIdeal.sig) → Buf (Elt Ideal) ℓ)
    (h : ∀ c : Dev nD,
      m ((c.tc : Thread nD τ).loc main_arg0) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg0))
      ∧ m ((c.tc : Thread nD τ).loc main_arg1) = m' (((0 : Dev Cert.ReferenceIdeal.nD).tc : Thread Cert.ReferenceIdeal.nD Cert.ReferenceIdeal.τ).loc Cert.ReferenceIdeal.main_arg1)
      ∧ m ((c.tc : Thread nD τ).loc main_arg2) = Layout.block ⟨2, ![512, 2]⟩ ⟨2, ![4096, 2]⟩ 0 8 c (m' (((0 : Dev Cert.ReferenceIdeal.nD).tc : Thread Cert.ReferenceIdeal.nD Cert.ReferenceIdeal.τ).loc Cert.ReferenceIdeal.main_arg2))
      ∧ m ((c.tc : Thread nD τ).loc main_arg3) = Layout.block ⟨3, ![2, 256, 512]⟩ ⟨3, ![16, 256, 512]⟩ 0 8 c (m' (((0 : Dev Cert.ReferenceIdeal.nD).tc : Thread Cert.ReferenceIdeal.nD Cert.ReferenceIdeal.τ).loc Cert.ReferenceIdeal.main_arg3)))
    (c : Dev nD) : out m c = Layout.block ⟨2, ![512, 512]⟩ ⟨2, ![4096, 512]⟩ 0 8 c (Cert.ReferenceIdeal.Value.res_out0 m' 0) := by
  refine funext fun i => ?_
  obtain ⟨r, k, rfl⟩ : ∃ (r k : Fin 512), i = ix2 r k := ⟨i 0, i 1, funext fun a => by fin_cases a <;> rfl⟩
  refine (outAt_apply (X m) (G m) (I m) (W m) c r k).trans ?_
  rw [block_row, ref_apply m' (rowOf c r) k _ rfl _ rfl _ rfl _ rfl, sum_experts]
  refine Finset.sum_congr rfl fun d _ => Finset.sum_congr rfl fun j _ => ?_
  unfold share
  rw [X_eq, G_eq, I_eq, W_eq, (h c).1, (h c).2.1, (h c).2.2.1, (h d).2.2.2]
  simp only [block_row, block_expert]

/-- The value claim. -/
theorem algebraic : Cert.algebraic_KernelIdeal_ReferenceIdeal (hKernelIdeal := Cert.KernelIdeal.Gen.facts) (hReferenceIdeal := Cert.ReferenceIdeal.Gen.facts) := by
  intro m ρ m' ρ' _ h
  refine ⟨Cert.ReferenceIdeal.Value.res_out0 m' 0, ?_, ?_⟩
  · exact (θ_run Cert.KernelIdeal.defs _ _).mono
      (fun _ e c => ⟨(e.1 c (4 : Fin 5)).trans ((final_out m c).trans (out_block m m' h c)), (e.1 c (0 : Fin 5)).trans (final_0 m c),
        (e.1 c (1 : Fin 5)).trans (final_1 m c), (e.1 c (2 : Fin 5)).trans (final_2 m c), (e.1 c (3 : Fin 5)).trans (final_3 m c)⟩)
      (run_main (F := Ideal) m ρ)
  · exact (θ_run Cert.ReferenceIdeal.defs _ _).mono (fun _ e => e 0) (Cert.ReferenceIdeal.Value.run (F := Ideal) m' ρ')

end Cert.Moe

end
-- ==== Proof.Pair.lean ====
/-
# `Pair`: the reference for a token of two different experts

The reference sums over all experts. For a token that names two different ones this is the sum of two products, each with
its probability over the sum of both.
-/
module

public import proofs.«01_k».proof.Proof.Model

@[expose] public section

noncomputable section

namespace Cert.Moe

open Idealize.ShloMosaic

theorem routed_iff (a b e : Fin 16) :
    routed (BitVec.ofNat 32 a.val) (BitVec.ofNat 32 b.val) e = if e = a ∨ e = b then 1#1 else 0#1 := by
  revert a b e; decide +kernel

theorem kept_eq (s : Fin 16 → EReal) (a b e : Fin 16) :
    kept s (BitVec.ofNat 32 a.val) (BitVec.ofNat 32 b.val) e = if e = a ∨ e = b then prob s e else 0 := by
  unfold kept
  rw [routed_iff]
  split <;> rfl

/-- The two products of a token, each with its own share of the two probabilities. -/
theorem two_experts (s y : Fin 16 → EReal) (a b : Fin 16) (hab : a ≠ b) (h0 : prob s a + prob s b ≠ 0) :
    ∑ e, gate s (BitVec.ofNat 32 a.val) (BitVec.ofNat 32 b.val) e * y e
      = Ideal.div (prob s a) (prob s a + prob s b) * y a + Ideal.div (prob s b) (prob s a + prob s b) * y b := by
  have hs : ∑ e, kept s (BitVec.ofNat 32 a.val) (BitVec.ofNat 32 b.val) e = prob s a + prob s b := by
    rw [Finset.sum_eq_add a b hab (fun e _ h => by rw [kept_eq, if_neg (not_or.2 h)]) (fun h => absurd (Finset.mem_univ _) h)
      (fun h => absurd (Finset.mem_univ _) h), kept_eq, kept_eq, if_pos (.inl rfl), if_pos (.inr rfl)]
  unfold gate
  simp only [hs]
  simp only [kept_eq]
  rw [Finset.sum_eq_add a b hab (fun e _ h => by rw [if_neg (not_or.2 h), Ideal.div, if_neg h0, zero_mul, zero_mul])
    (fun h => absurd (Finset.mem_univ _) h) (fun h => absurd (Finset.mem_univ _) h), if_pos (.inl rfl), if_pos (.inr rfl)]

end Cert.Moe

end
-- ==== Proof.lean ====
/- The claims of this certificate, put together: the frames of the kernel as printed, of the kernel over the
   ideal floats and of the reference, and the value of the kernel's result. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Claims
public import proofs.«01_k».proof.Proof.Algebraic
public import proofs.«01_k».proof.Proof.Pair
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Moe.frame_kernel,
    Cert.Moe.frame_ideal, Cert.Moe.frame_reference, trivial, Cert.Moe.algebraic⟩

end Cert.Proof

end
